-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S2x512 : Shape := ⟨2, ![2, 512]⟩
abbrev S16x2x512 : Shape := ⟨3, ![16, 2, 512]⟩
abbrev S16 : Shape := ⟨1, ![16]⟩
abbrev S_ : Shape := ⟨0, ![]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x2x512 : Shape := ⟨3, ![1, 2, 512]⟩
abbrev S16x1x512 : Shape := ⟨3, ![16, 1, 512]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S2x512, .f32⟩
  | .local _ .vmem, ⟨0, _⟩ => ⟨S512x512, .f32⟩
  | .local _ .vmem, ⟨1, _⟩ => ⟨S2x512, .f32⟩
  | .local _ .vmem, ⟨2, _⟩ => ⟨S16x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_69 : BitVec 32 := 1#32
  let v87 : BitVec 32 := Scalar.addi v2 c1_i32_69
  let c16_i32_70 : BitVec 32 := 16#32
  let v88 : BitVec 32 := Scalar.remsi v87 c16_i32_70
  let c1_i32_75 : BitVec 32 := 1#32
  let v89 : BitVec 32 := Scalar.muli v88 c1_i32_75
  let v90 : BitVec 32 := Scalar.addi c0_i32_76 v89
  v90.toNat
def k0_dev17 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v99 : BitVec 32 := Scalar.addi v2 c2_i32_81
  let c16_i32_82 : BitVec 32 := 16#32
  let v100 : BitVec 32 := Scalar.remsi v99 c16_i32_82
  let c1_i32_87 : BitVec 32 := 1#32
  let v101 : BitVec 32 := Scalar.muli v100 c1_i32_87
  let v102 : BitVec 32 := Scalar.addi c0_i32_88 v101
  v102.toNat
def k0_dev18 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_93 : BitVec 32 := 3#32
  let v111 : BitVec 32 := Scalar.addi v2 c3_i32_93
  let c16_i32_94 : BitVec 32 := 16#32
  let v112 : BitVec 32 := Scalar.remsi v111 c16_i32_94
  let c1_i32_99 : BitVec 32 := 1#32
  let v113 : BitVec 32 := Scalar.muli v112 c1_i32_99
  let v114 : BitVec 32 := Scalar.addi c0_i32_100 v113
  v114.toNat
def k0_dev19 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_105 : BitVec 32 := 4#32
  let v123 : BitVec 32 := Scalar.addi v2 c4_i32_105
  let c16_i32_106 : BitVec 32 := 16#32
  let v124 : BitVec 32 := Scalar.remsi v123 c16_i32_106
  let c1_i32_111 : BitVec 32 := 1#32
  let v125 : BitVec 32 := Scalar.muli v124 c1_i32_111
  let v126 : BitVec 32 := Scalar.addi c0_i32_112 v125
  v126.toNat
def k0_dev20 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_117 : BitVec 32 := 5#32
  let v135 : BitVec 32 := Scalar.addi v2 c5_i32_117
  let c16_i32_118 : BitVec 32 := 16#32
  let v136 : BitVec 32 := Scalar.remsi v135 c16_i32_118
  let c1_i32_123 : BitVec 32 := 1#32
  let v137 : BitVec 32 := Scalar.muli v136 c1_i32_123
  let v138 : BitVec 32 := Scalar.addi c0_i32_124 v137
  v138.toNat
def k0_dev21 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_129 : BitVec 32 := 6#32
  let v147 : BitVec 32 := Scalar.addi v2 c6_i32_129
  let c16_i32_130 : BitVec 32 := 16#32
  let v148 : BitVec 32 := Scalar.remsi v147 c16_i32_130
  let c1_i32_135 : BitVec 32 := 1#32
  let v149 : BitVec 32 := Scalar.muli v148 c1_i32_135
  let v150 : BitVec 32 := Scalar.addi c0_i32_136 v149
  v150.toNat
def k0_dev22 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_141 : BitVec 32 := 7#32
  let v159 : BitVec 32 := Scalar.addi v2 c7_i32_141
  let c16_i32_142 : BitVec 32 := 16#32
  let v160 : BitVec 32 := Scalar.remsi v159 c16_i32_142
  let c1_i32_147 : BitVec 32 := 1#32
  let v161 : BitVec 32 := Scalar.muli v160 c1_i32_147
  let v162 : BitVec 32 := Scalar.addi c0_i32_148 v161
  v162.toNat
def k0_dev23 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_153 : BitVec 32 := 8#32
  let v171 : BitVec 32 := Scalar.addi v2 c8_i32_153
  let c16_i32_154 : BitVec 32 := 16#32
  let v172 : BitVec 32 := Scalar.remsi v171 c16_i32_154
  let c1_i32_159 : BitVec 32 := 1#32
  let v173 : BitVec 32 := Scalar.muli v172 c1_i32_159
  let v174 : BitVec 32 := Scalar.addi c0_i32_160 v173
  v174.toNat
def k0_dev24 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_165 : BitVec 32 := 9#32
  let v183 : BitVec 32 := Scalar.addi v2 c9_i32_165
  let c16_i32_166 : BitVec 32 := 16#32
  let v184 : BitVec 32 := Scalar.remsi v183 c16_i32_166
  let c1_i32_171 : BitVec 32 := 1#32
  let v185 : BitVec 32 := Scalar.muli v184 c1_i32_171
  let v186 : BitVec 32 := Scalar.addi c0_i32_172 v185
  v186.toNat
def k0_dev25 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_177 : BitVec 32 := 10#32
  let v195 : BitVec 32 := Scalar.addi v2 c10_i32_177
  let c16_i32_178 : BitVec 32 := 16#32
  let v196 : BitVec 32 := Scalar.remsi v195 c16_i32_178
  let c1_i32_183 : BitVec 32 := 1#32
  let v197 : BitVec 32 := Scalar.muli v196 c1_i32_183
  let v198 : BitVec 32 := Scalar.addi c0_i32_184 v197
  v198.toNat
def k0_dev26 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_189 : BitVec 32 := 11#32
  let v207 : BitVec 32 := Scalar.addi v2 c11_i32_189
  let c16_i32_190 : BitVec 32 := 16#32
  let v208 : BitVec 32 := Scalar.remsi v207 c16_i32_190
  let c1_i32_195 : BitVec 32 := 1#32
  let v209 : BitVec 32 := Scalar.muli v208 c1_i32_195
  let v210 : BitVec 32 := Scalar.addi c0_i32_196 v209
  v210.toNat
def k0_dev27 (d0 : Dev nD) : Nat :=
  let c0_i32_208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_201 : BitVec 32 := 12#32
  let v219 : BitVec 32 := Scalar.addi v2 c12_i32_201
  let c16_i32_202 : BitVec 32 := 16#32
  let v220 : BitVec 32 := Scalar.remsi v219 c16_i32_202
  let c1_i32_207 : BitVec 32 := 1#32
  let v221 : BitVec 32 := Scalar.muli v220 c1_i32_207
  let v222 : BitVec 32 := Scalar.addi c0_i32_208 v221
  v222.toNat
def k0_dev28 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_213 : BitVec 32 := 13#32
  let v231 : BitVec 32 := Scalar.addi v2 c13_i32_213
  let c16_i32_214 : BitVec 32 := 16#32
  let v232 : BitVec 32 := Scalar.remsi v231 c16_i32_214
  let c1_i32_219 : BitVec 32 := 1#32
  let v233 : BitVec 32 := Scalar.muli v232 c1_i32_219
  let v234 : BitVec 32 := Scalar.addi c0_i32_220 v233
  v234.toNat
def k0_dev29 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_225 : BitVec 32 := 14#32
  let v243 : BitVec 32 := Scalar.addi v2 c14_i32_225
  let c16_i32_226 : BitVec 32 := 16#32
  let v244 : BitVec 32 := Scalar.remsi v243 c16_i32_226
  let c1_i32_231 : BitVec 32 := 1#32
  let v245 : BitVec 32 := Scalar.muli v244 c1_i32_231
  let v246 : BitVec 32 := Scalar.addi c0_i32_232 v245
  v246.toNat
def k0_dev30 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_237 : BitVec 32 := 15#32
  let v255 : BitVec 32 := Scalar.addi v2 c15_i32_237
  let c16_i32_238 : BitVec 32 := 16#32
  let v256 : BitVec 32 := Scalar.remsi v255 c16_i32_238
  let c1_i32_243 : BitVec 32 := 1#32
  let v257 : BitVec 32 := Scalar.muli v256 c1_i32_243
  let v258 : BitVec 32 := Scalar.addi c0_i32_244 v257
  v258.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S_ : Shape := ⟨0, ![]⟩
abbrev S512 : Shape := ⟨1, ![512]⟩
abbrev S1x512 : Shape := ⟨2, ![1, 512]⟩
abbrev S2x512 : Shape := ⟨2, ![2, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .i32⟩
  | .hbm, ⟨2, _⟩ => ⟨S_, .f32⟩
  | .hbm, ⟨3, _⟩ => ⟨S_, .i32⟩
  | .hbm, ⟨4, _⟩ => ⟨S512, .f32⟩
  | .hbm, ⟨5, _⟩ => ⟨S512, .i32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S1x512, .f32⟩
  | .hbm, ⟨11, _⟩ => ⟨S2x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.KernelIdeal.Slots.lean ====
/-
The gather buffer, slot by slot.

Sixteen devices stand in a circle. Device `c` keeps its own pair of rows (the column maxima of its block, and where they stand) in slot 0
of its gather buffer and sends that pair into slot `d` of the device `d` places after it, `d = 1, …, 15`. So slot `s` of device `c` ends up
holding the pair of the device `s` places before `c`.

This module names the offsets, the slots as views of the buffer, and the final contents `gath` of a device's buffer, and states what the
two stores into slot 0 and a copy into slot `s` leave there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.KernelIdeal.Gather

open Cert.KernelIdeal Cert.KernelIdeal.Gen
open Idealize.ShloMosaic Idealize.ShloMosaic.TcCoe Idealize.ShloMosaic.ValueIdx
open Idealize.SL Idealize.SL.Sem

variable {F : FTy → Type} [FloatOps F]

/-! ## Offsets around the circle -/

/-- The device `j + 1` places after `c`. -/
def fwd (c : Dev nD) (j : Fin 15) : Dev nD := ⟨(c.val + (j.val + 1)) % 16, Nat.mod_lt _ (by decide)⟩
/-- The device `s` places before `c`: the one whose pair slot `s` of `c` holds. -/
def src (c : Dev nD) (s : Fin 16) : Dev nD := ⟨(c.val + (16 - s.val)) % 16, Nat.mod_lt _ (by decide)⟩

/-- Going `j + 1` places on and looking `j + 1` places back is standing still. -/
theorem src_fwd (c : Dev nD) (j : Fin 15) : src (fwd c j) j.succ = c := by
  have hc := c.isLt
  exact Fin.ext (by simp only [src, fwd, Fin.val_succ, nD] at *; omega)
/-- The other way round. -/
theorem fwd_src (c : Dev nD) (j : Fin 15) : fwd (src c j.succ) j = c := by
  have hc := c.isLt
  exact Fin.ext (by simp only [src, fwd, Fin.val_succ, nD] at *; omega)
/-- `j + 1` places on and then the rest of the circle is standing still. -/
theorem fwd_rev (c : Dev nD) (j : Fin 15) : fwd (fwd c j) j.rev = c := by
  have hc := c.isLt
  exact Fin.ext (by simp only [fwd, Fin.val_rev, nD] at *; omega)
/-- A device is zero places before itself. -/
theorem src_zero (c : Dev nD) : src c 0 = c := by
  have hc := c.isLt
  exact Fin.ext (by simp only [src, Fin.val_zero, nD] at *; omega)
/-- The step by a fixed offset, as a rearrangement of the devices. -/
def step (j : Fin 15) : Dev nD ≃ Dev nD := ⟨fun c => fwd c j, fun c => src c j.succ, fun c => src_fwd c j, fun c => fwd_src c j⟩

/-- The device the kernel's signal number `j` is addressed to, as the kernel computes it. -/
def sigDev (j : Fin 15) (c : Dev nD) : Dev nD := match j with
  | ⟨0, _⟩ => ⟨k0_dev1 c, k0_dev1_lt c⟩ | ⟨1, _⟩ => ⟨k0_dev2 c, k0_dev2_lt c⟩ | ⟨2, _⟩ => ⟨k0_dev3 c, k0_dev3_lt c⟩
  | ⟨3, _⟩ => ⟨k0_dev4 c, k0_dev4_lt c⟩ | ⟨4, _⟩ => ⟨k0_dev5 c, k0_dev5_lt c⟩ | ⟨5, _⟩ => ⟨k0_dev6 c, k0_dev6_lt c⟩
  | ⟨6, _⟩ => ⟨k0_dev7 c, k0_dev7_lt c⟩ | ⟨7, _⟩ => ⟨k0_dev8 c, k0_dev8_lt c⟩ | ⟨8, _⟩ => ⟨k0_dev9 c, k0_dev9_lt c⟩
  | ⟨9, _⟩ => ⟨k0_dev10 c, k0_dev10_lt c⟩ | ⟨10, _⟩ => ⟨k0_dev11 c, k0_dev11_lt c⟩ | ⟨11, _⟩ => ⟨k0_dev12 c, k0_dev12_lt c⟩
  | ⟨12, _⟩ => ⟨k0_dev13 c, k0_dev13_lt c⟩ | ⟨13, _⟩ => ⟨k0_dev14 c, k0_dev14_lt c⟩ | ⟨14, _⟩ => ⟨k0_dev15 c, k0_dev15_lt c⟩
/-- The device the kernel's copy number `j` is addressed to, as the kernel computes it. -/
def dmaDev (j : Fin 15) (c : Dev nD) : Dev nD := match j with
  | ⟨0, _⟩ => ⟨k0_dev16 c, k0_dev16_lt c⟩ | ⟨1, _⟩ => ⟨k0_dev17 c, k0_dev17_lt c⟩ | ⟨2, _⟩ => ⟨k0_dev18 c, k0_dev18_lt c⟩
  | ⟨3, _⟩ => ⟨k0_dev19 c, k0_dev19_lt c⟩ | ⟨4, _⟩ => ⟨k0_dev20 c, k0_dev20_lt c⟩ | ⟨5, _⟩ => ⟨k0_dev21 c, k0_dev21_lt c⟩
  | ⟨6, _⟩ => ⟨k0_dev22 c, k0_dev22_lt c⟩ | ⟨7, _⟩ => ⟨k0_dev23 c, k0_dev23_lt c⟩ | ⟨8, _⟩ => ⟨k0_dev24 c, k0_dev24_lt c⟩
  | ⟨9, _⟩ => ⟨k0_dev25 c, k0_dev25_lt c⟩ | ⟨10, _⟩ => ⟨k0_dev26 c, k0_dev26_lt c⟩ | ⟨11, _⟩ => ⟨k0_dev27 c, k0_dev27_lt c⟩
  | ⟨12, _⟩ => ⟨k0_dev28 c, k0_dev28_lt c⟩ | ⟨13, _⟩ => ⟨k0_dev29 c, k0_dev29_lt c⟩ | ⟨14, _⟩ => ⟨k0_dev30 c, k0_dev30_lt c⟩

/-- Signal number `j` goes to the device `j + 1` places on. -/
theorem sigDev_eq (j : Fin 15) (c : Dev nD) : sigDev j c = fwd c j := by
  refine Fin.ext ?_
  match j with
  | ⟨0, _⟩ => exact k0_dev1_eq c | ⟨1, _⟩ => exact k0_dev2_eq c | ⟨2, _⟩ => exact k0_dev3_eq c
  | ⟨3, _⟩ => exact k0_dev4_eq c | ⟨4, _⟩ => exact k0_dev5_eq c | ⟨5, _⟩ => exact k0_dev6_eq c
  | ⟨6, _⟩ => exact k0_dev7_eq c | ⟨7, _⟩ => exact k0_dev8_eq c | ⟨8, _⟩ => exact k0_dev9_eq c
  | ⟨9, _⟩ => exact k0_dev10_eq c | ⟨10, _⟩ => exact k0_dev11_eq c | ⟨11, _⟩ => exact k0_dev12_eq c
  | ⟨12, _⟩ => exact k0_dev13_eq c | ⟨13, _⟩ => exact k0_dev14_eq c | ⟨14, _⟩ => exact k0_dev15_eq c
/-- Copy number `j` goes to the device `j + 1` places on. -/
theorem dmaDev_eq (j : Fin 15) (c : Dev nD) : dmaDev j c = fwd c j := by
  refine Fin.ext ?_
  match j with
  | ⟨0, _⟩ => exact k0_dev16_eq c | ⟨1, _⟩ => exact k0_dev17_eq c | ⟨2, _⟩ => exact k0_dev18_eq c
  | ⟨3, _⟩ => exact k0_dev19_eq c | ⟨4, _⟩ => exact k0_dev20_eq c | ⟨5, _⟩ => exact k0_dev21_eq c
  | ⟨6, _⟩ => exact k0_dev22_eq c | ⟨7, _⟩ => exact k0_dev23_eq c | ⟨8, _⟩ => exact k0_dev24_eq c
  | ⟨9, _⟩ => exact k0_dev25_eq c | ⟨10, _⟩ => exact k0_dev26_eq c | ⟨11, _⟩ => exact k0_dev27_eq c
  | ⟨12, _⟩ => exact k0_dev28_eq c | ⟨13, _⟩ => exact k0_dev29_eq c | ⟨14, _⟩ => exact k0_dev30_eq c

/-! ## The buffers and the slots -/

/-- The staged block, the staged result and the gather buffer. -/
abbrev xM : Memref sig .tc .vmem S512x512 .f32 := Memref.whole cc0_stg0_0
abbrev oM : Memref sig .tc .vmem S2x512 .f32 := Memref.whole cc0_stg1_0
abbrev gM : Memref sig .tc .vmem S16x2x512 .f32 := Memref.whole cc0_scratch0

theorem slot_inb (s : Fin 16) : ∀ a, (![s.val, 0, 0] : Fin 3 → Nat) a + S1x2x512.size a ≤ S16x2x512.size a := by
  intro a
  have := s.isLt
  match a with
  | ⟨0, _⟩ => show s.val + 1 ≤ 16; omega
  | ⟨1, _⟩ => show 0 + 2 ≤ 2; omega
  | ⟨2, _⟩ => show 0 + 512 ≤ 512; omega

/-- Slot `s` as a rectangle of the gather buffer; -/
abbrev slotR (s : Fin 16) : Rect S16x2x512 := Rect.unit (s := S16x2x512) ![s.val, 0, 0] S1x2x512.size (slot_inb s)
/-- as the two-row view the copies and waits name. -/
abbrev slotM (s : Fin 16) : Memref sig .tc .vmem S2x512 .f32 :=
  (gM.slice (slotR s) (fun _ => rfl)).squeeze S2x512 squeezes_S1x2x512_S2x512

/-- The elements of slot `s`. -/
abbrev slotS (s : Fin 16) : Finset (cc0_scratch0 : Ref sig .tc).ty.shape.Idx := (slotM s).view.set

theorem slotS_eq (s : Fin 16) : slotS s = (slotR s).set := by
  show ((View.whole cc0_scratch0).slice (slotR s) |>.reshape _ _).set = _
  rw [View.set_reshape, View.set_slice_whole]

/-- An element lies in slot `s` if its first coordinate is `s`. -/
theorem mem_slotS {s : Fin 16} {i : S16x2x512.Idx} : i ∈ slotS s ↔ (i 0).val = s.val := by
  rw [slotS_eq, Rect.mem_set_unit]
  constructor
  · intro h
    have h0 := h (0 : Fin 3)
    have e1 : (![s.val, 0, 0] : Fin 3 → Nat) 0 = s.val := rfl
    have e2 : S1x2x512.size 0 = 1 := rfl
    rw [e1, e2] at h0
    omega
  · intro h a
    match a with
    | ⟨0, _⟩ => exact ⟨h.ge, by show (i 0).val < s.val + 1; omega⟩
    | ⟨1, _⟩ => exact ⟨Nat.zero_le _, by have h1 : (i 1).val < 2 := (i 1).isLt; show (i 1).val < 0 + 2; omega⟩
    | ⟨2, _⟩ => exact ⟨Nat.zero_le _, by have h2 : (i 2).val < 512 := (i 2).isLt; show (i 2).val < 0 + 512; omega⟩

/-- Different slots share no element. -/
theorem slotS_disjoint {s t : Fin 16} (h : s ≠ t) : Disjoint (slotS s) (slotS t) :=
  Finset.disjoint_left.mpr fun i hi hj => h (Fin.ext ((mem_slotS.mp hi).symm.trans (mem_slotS.mp hj)))

/-- The slots make up the buffer. -/
theorem slotS_cover : Finset.univ.biUnion slotS = (Finset.univ : Finset S16x2x512.Idx) := by
  ext i
  simp only [Finset.mem_biUnion, Finset.mem_univ, true_and, iff_true]
  exact ⟨i 0, mem_slotS.mpr rfl⟩

/-! ## Contents -/

variable (m : (ℓ : Loc nD τ sig) → Buf (Elt F) ℓ) (ρ : Dev nD → PrngReg)

/-- The memory at launch: arbitrary contents, every semaphore at zero. -/
def s₀ : MemSt nD τ sig (Elt F) := ⟨m, fun _ => 0, ρ⟩

/-- The block of `x` on device `c`, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- The device's number as the kernel computes it. -/
abbrev devNo (c : Dev nD) : BitVec 32 := Scalar.remsi (Scalar.divsi (Dev.word c) 1#32) 16#32

/-- The column maxima of device `c`'s block, as stored; -/
def best (c : Dev nD) : FVec F S1x1x512 .f32 := k0_pay5 (k0_pay4 (xstg m ρ c))
/-- and the rows they stand in, as numbers of the whole array's rows. -/
def place (c : Dev nD) : FVec F S1x1x512 .f32 := k0_pay6 (k0_pay3 (devNo c) (xstg m ρ c))

/-- Device `c`'s pair of rows at row `r` and column `l`. -/
def pair (c : Dev nD) (r : Fin 2) (l : Fin 512) : Elt F .f32 :=
  if r.val = 0 then best m ρ c (ix3 0 0 l) else place m ρ c (ix3 0 0 l)

/-- The gather buffer of device `c` when all the copies have landed: slot `s` holds the pair of the device `s` places before. -/
def gath (c : Dev nD) : (cc0_scratch0 : Ref sig .tc).ty.Contents (Elt F) :=
  fun i => pair m ρ (src c (i 0)) (i 1) (i 2)

/-- An element of the gather buffer by its slot, its row and its column. -/
theorem gath_at (c : Dev nD) (i : S16x2x512.Idx) (s : Fin 16) (r : Fin 2) (l : Fin 512) (h0 : (i 0).val = s.val) (h1 : (i 1).val = r.val)
    (h2 : (i 2).val = l.val) : gath m ρ c i = pair m ρ (src c s) r l := by
  have e0 : (i 0 : Fin 16) = s := Fin.ext h0
  have e1 : (i 1 : Fin 2) = r := Fin.ext h1
  have e2 : (i 2 : Fin 512) = l := Fin.ext h2
  show pair m ρ (src c (i 0 : Fin 16)) (i 1 : Fin 2) (i 2 : Fin 512) = _
  rw [e0, e1, e2]

theorem row_inb (r : Fin 2) : ∀ a, (![0, r.val, 0] : Fin 3 → Nat) a + S1x1x512.size a ≤ S16x2x512.size a := by
  intro a
  have := r.isLt
  match a with
  | ⟨0, _⟩ => show 0 + 1 ≤ 16; omega
  | ⟨1, _⟩ => show r.val + 1 ≤ 2; omega
  | ⟨2, _⟩ => show 0 + 512 ≤ 512; omega

/-- Row `r` of slot 0, where the kernel stores. -/
abbrev rowR (r : Fin 2) : Rect S16x2x512 := Rect.unit (s := S16x2x512) ![0, r.val, 0] S1x1x512.size (row_inb r)

/-- The rows of slot 0 lie in slot 0. -/
theorem rowR_subset (r : Fin 2) : (gM.access (rowR r)).setOn Finset.univ ⊆ slotS 0 := by
  intro i hi
  have hi : i ∈ ((View.whole cc0_scratch0).slice (rowR r)).set := hi
  rw [View.set_slice_whole, Rect.mem_set_unit] at hi
  have h0 := hi (0 : Fin 3)
  have e1 : (![0, r.val, 0] : Fin 3 → Nat) 0 = 0 := rfl
  have e2 : S1x1x512.size 0 = 1 := rfl
  rw [e1, e2] at h0
  exact mem_slotS.mpr (by show (i 0).val = 0; omega)

omit [FloatOps F] in
/-- A store into row `r` of slot 0 leaves the stored value at that row's elements. -/
theorem row_write_same (r : Fin 2) (f : (cc0_scratch0 : Ref sig .tc).ty.Contents (Elt F)) (w : (rowR r).shape.Idx → Elt F .f32)
    (i : S16x2x512.Idx) (h0 : (i 0).val = 0) (h1 : (i 1).val = r.val) :
    (gM.access (rowR r)).write (Elt F) f w Finset.univ i = w (ix3 0 0 (i 2)) := by
  have e : (gM.access (rowR r)).emb (ix3 0 0 (i 2) : S1x1x512.Idx) = i := by
    show (rowR r).emb (ix3 0 0 (i 2) : S1x1x512.Idx) = i
    funext a
    refine Fin.ext ?_
    match a with
    | ⟨0, _⟩ => exact h0.symm
    | ⟨1, _⟩ => show r.val + 1 * 0 = (i 1).val; omega
    | ⟨2, _⟩ => show 0 + 1 * (i 2).val = (i 2).val; omega
  have hw := View.write_emb_of_mem (v := gM.access (rowR r)) (Val := Elt F) f w (Finset.mem_univ (ix3 0 0 (i 2) : S1x1x512.Idx))
  exact (congrArg ((gM.access (rowR r)).write (Elt F) f w Finset.univ) e.symm).trans hw

omit [FloatOps F] in
/-- A store into row `r` leaves everything else. -/
theorem row_write_other (r : Fin 2) (f : (cc0_scratch0 : Ref sig .tc).ty.Contents (Elt F)) (w : (rowR r).shape.Idx → Elt F .f32)
    (i : S16x2x512.Idx) (h1 : (i 1).val ≠ r.val) :
    (gM.access (rowR r)).write (Elt F) f w Finset.univ i = f i := by
  have hn : i ∉ (gM.access (rowR r)).setOn Finset.univ := by
    intro hi
    have hi : i ∈ ((View.whole cc0_scratch0).slice (rowR r)).set := hi
    rw [View.set_slice_whole, Rect.mem_set_unit] at hi
    have h := hi (1 : Fin 3)
    have e1 : (![0, r.val, 0] : Fin 3 → Nat) 1 = r.val := rfl
    have e2 : S1x1x512.size 1 = 1 := rfl
    rw [e1, e2] at h
    omega
  exact View.write_of_not_mem (v := gM.access (rowR r)) (Val := Elt F) f w Finset.univ hn

/-- After the two stores slot 0 holds the device's own pair, whatever the buffer held. -/
theorem stored (c : Dev nD) (f : (cc0_scratch0 : Ref sig .tc).ty.Contents (Elt F)) (i : S16x2x512.Idx) (hi : i ∈ slotS 0) :
    (gM.access (rowR 1)).write (Elt F) ((gM.access (rowR 0)).write (Elt F) f (best m ρ c) Finset.univ) (place m ρ c) Finset.univ i
      = gath m ρ c i := by
  have h0 : (i 0).val = 0 := mem_slotS.mp hi
  rw [gath_at m ρ c i 0 (i 1) (i 2) h0 rfl rfl, src_zero]
  unfold pair
  have h1 : (i 1).val < 2 := (i 1).isLt
  by_cases h : (i 1).val = 0
  · rw [if_pos h, row_write_other 1 _ _ i (by rw [h]; decide), row_write_same 0 _ _ i h0 h]
  · rw [if_neg h, row_write_same 1 _ _ i h0 (by show (i 1).val = 1; omega)]

/-- A copy of device `c`'s slot 0 into slot `j + 1` of the device `j + 1` places on leaves that device's slot as `gath` says. -/
theorem landed (c : Dev nD) (j : Fin 15) (fd : (cc0_scratch0 : Ref sig .tc).ty.Contents (Elt F)) (i : S16x2x512.Idx) (hi : i ∈ slotS j.succ) :
    (slotM j.succ).view.write (Elt F) fd ((slotM 0).view.read (Elt F) (gath m ρ c)) Finset.univ i = gath m ρ (fwd c j) i := by
  obtain ⟨k, -, rfl⟩ := Finset.mem_map.mp hi
  have hw := View.write_emb_of_mem (v := (slotM j.succ).view) (Val := Elt F) fd ((slotM 0).view.read (Elt F) (gath m ρ c)) (Finset.mem_univ k)
  refine hw.trans ?_
  show gath m ρ c ((slotM 0).view.emb k) = gath m ρ (fwd c j) ((slotM j.succ).view.emb k)
  have hd : (((slotM j.succ).view.emb k : S16x2x512.Idx) 0).val = j.succ.val := mem_slotS.mp hi
  have h0 : (((slotM 0).view.emb k : S16x2x512.Idx) 0).val = (0 : Fin 16).val := mem_slotS.mp ((slotM 0).view.emb_mem_set k)
  have h1 : (((slotM 0).view.emb k : S16x2x512.Idx) 1).val = (((slotM j.succ).view.emb k : S16x2x512.Idx) 1).val := rfl
  have h2 : (((slotM 0).view.emb k : S16x2x512.Idx) 2).val = (((slotM j.succ).view.emb k : S16x2x512.Idx) 2).val := rfl
  rw [gath_at m ρ c _ 0 _ _ h0 h1 h2, gath_at m ρ (fwd c j) _ j.succ _ _ hd rfl rfl, src_zero, src_fwd]

end Cert.KernelIdeal.Gather

end
-- ==== Proof.KernelIdeal.Protocol.lean ====
/-
The exchange's schedule.

Each device has one barrier cell, fifteen send cells and fifteen receive cells, and everything happens in their round 0.

* Barrier cell of `c`: fifteen duties of one unit. Duty `k` is paid by the device `k + 1` places after `c`, which hands over its own slot
  `k + 1`: the slot `c`'s copy number `k` will fill.
* Receive cell `j` of `c`: one duty of a slot's credit, paid by the copy that fills slot `j + 1`; it hands over that slot, filled.
* Send cell `j` of `c`: one duty of a slot's credit, paid by `c`'s copy number `j`; it hands back the share of slot 0 the copy read from.

The staging and send cells are at level 0, the barrier cells at 1, the receive cells at 2: whoever waits at the barrier still owes only
receive credit, and whoever waits for a copy owes nothing.
-/
module

public import proofs.«01_k».proof.Proof.KernelIdeal.Slots

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's, whose duties are named by offsets -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores and cells -/

theorem sem_inb (j : Fin 15) : ∀ a, (![j.val + 1] : Fin 1 → Nat) a + S1.size a ≤ S16.size a := by
  intro a
  have := j.isLt
  match a with
  | ⟨0, _⟩ => show j.val + 1 + 1 ≤ 16; omega

abbrev barS : Sem sig := (SemArray.scalar (sig.barrier 0 rfl) : Sems sig S_).sem
/-- The semaphores copy number `j` completes on: at the sender, -/
abbrev sendS (j : Fin 15) : DmaSem sig :=
  ((cc0_scratch1.slice (Rect.unit (s := S16) ![j.val + 1] S1.size (sem_inb j))).squeeze S_ squeezes_S1_S_).sem
/-- and at the receiver. -/
abbrev recvS (j : Fin 15) : DmaSem sig :=
  ((cc0_scratch2.slice (Rect.unit (s := S16) ![j.val + 1] S1.size (sem_inb j))).squeeze S_ squeezes_S1_S_).sem

theorem sendS_val (j : Fin 15) : (sendS j).val = j.val + 3 := by revert j; decide +kernel
theorem recvS_val (j : Fin 15) : (recvS j).val = j.val + 19 := by revert j; decide +kernel

/-- What a device's cells are: the barrier cell, the send cells, the receive cells. -/
abbrev Kinds : Type := Unit ⊕ Fin 15 ⊕ Fin 15

/-- The kernel's own semaphores, -/
def osem : Fin 15 ⊕ Fin 15 → SemLoc sig
  | .inl j => .dma (sendS j)
  | .inr j => .dma (recvS j)
/-- and all the exchange uses. -/
def csem : Kinds → SemLoc sig
  | .inl _ => .reg barS
  | .inr k => osem k

/-- Which of the exchange's semaphores number `q` of the copies' semaphores is, if any; -/
def kindDma (q : ℕ) : Option Kinds :=
  if h : 3 ≤ q ∧ q < 18 then some (.inr (.inl ⟨q - 3, by omega⟩))
  else if h' : 19 ≤ q ∧ q < 34 then some (.inr (.inr ⟨q - 19, by omega⟩))
  else none
/-- and which of them any semaphore is. -/
def kindOf : SemLoc sig → Option Kinds
  | .reg s => if s = barS then some (.inl ()) else none
  | .dma q => kindDma q.val

theorem kindOf_csem (k : Kinds) : kindOf (csem k) = some k := by
  rcases k with u | j | j
  · show (if barS = barS then some (Sum.inl ()) else none : Option Kinds) = _
    exact if_pos rfl
  · show kindDma (sendS j).val = _
    rw [sendS_val]; revert j; decide
  · show kindDma (recvS j).val = _
    rw [recvS_val]; revert j; decide

theorem csem_injective : Function.Injective csem := fun a b h =>
  Option.some.inj ((kindOf_csem a).symm.trans ((congrArg kindOf h).trans (kindOf_csem b)))

abbrev kcell (ck : Dev nD × Kinds) : GSem nD τ sig := ((ck.1 : Thread nD τ), csem ck.2)
abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

theorem kcell_injective : Function.Injective (kcell : Dev nD × Kinds → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- What a copy of one slot is worth. -/
def N : ℕ := (slotM 0).view.dmaCredit
theorem N_pos : 0 < N := View.dmaCredit_pos _ (by decide)
theorem N_slot (s : Fin 16) : (slotM s).view.dmaCredit = N := rfl

/-! ## What the cells hand over -/

/-- Slot `s` of device `c` at share `q`, holding what `f` says. -/
def slotPts (c : Dev nD) (s : Fin 16) (q : PosShare TreeShare) (f : Buf (Elt F) ((c : Thread nD τ).loc cc0_scratch0)) : sProp 𝕄 :=
  ((c : Thread nD τ).loc cc0_scratch0) ↦[slotS s]{q} f

omit [FloatOps F] in
instance slotPts_storable (c : Dev nD) (s : Fin 16) (q) (f) : BI.Storable (upEmb : UEmb _ 𝕄) (slotPts (F := F) c s q f) := by
  unfold slotPts; infer_instance

/-- The share of slot 0 that copy number `j` reads through. -/
abbrev tok (j : Fin 15) : PosShare TreeShare := Transfers.shareTok fullShare.right 15 j

def barPay (c : Dev nD) (k : Fin 15) : sProp 𝕄 := iprop(∃ f, slotPts (fwd c k) k.succ fullShare f)
def recvPay (c : Dev nD) (j : Fin 15) : sProp 𝕄 := slotPts c j.succ fullShare (gath m ρ c)
def sendPay (c : Dev nD) (j : Fin 15) : sProp 𝕄 := slotPts c 0 (tok j) (gath m ρ c)

/-- The duties of a cell of a kind; -/
def dutiesOf : Option Kinds → Finset (Fin 15)
  | some (.inl _) => Finset.univ
  | some (.inr _) => {0}
  | none => ∅
/-- what one is worth; -/
def amountOf' : Option Kinds → ℕ
  | some (.inl _) => 1
  | _ => N
/-- what it hands over. -/
def payOf (c : Dev nD) (d : Fin 15) : Option Kinds → sProp 𝕄
  | some (.inl _) => barPay c d
  | some (.inr (.inl j)) => sendPay m ρ c j
  | some (.inr (.inr j)) => recvPay m ρ c j
  | none => iprop(emp)

/-- The schedule. -/
def Rd : Rounds.Schedule (GSem nD τ sig) (Fin 15) 𝕄 where
  duties g r := if r = 0 ∧ g.1.2 = .tc then dutiesOf (kindOf g.2) else ∅
  unitless _ := False
  amount g _ _ := amountOf' (kindOf g.2)
  payload g _ d := payOf m ρ g.1.1 d (kindOf g.2)
  amount_pos g _ _ _ := by
    unfold amountOf'
    split
    · exact Nat.one_pos
    · exact N_pos

instance Rd_payload_storable (g : GSem nD τ sig) (r : ℕ) (d : Fin 15) : BI.Storable (upEmb : UEmb _ 𝕄) ((Rd (F := F) m ρ).payload g r d) := by
  show BI.Storable upEmb (payOf m ρ g.1.1 d (kindOf g.2))
  unfold payOf barPay recvPay sendPay
  split <;> infer_instance

section Sched
variable (c : Dev nD)

theorem duties_at (k : Kinds) : (Rd (F := F) m ρ).duties (kcell (c, k)) 0 = dutiesOf (some k) := by
  have e : (Rd (F := F) m ρ).duties (kcell (c, k)) 0 = dutiesOf (kindOf (csem k)) := by
    dsimp only [Rd]; exact if_pos ⟨rfl, rfl⟩
  exact e.trans (congrArg dutiesOf (kindOf_csem k))
theorem amount_at (k : Kinds) (d : Fin 15) : (Rd (F := F) m ρ).amount (kcell (c, k)) 0 d = amountOf' (some k) := by
  show amountOf' (kindOf (csem k)) = _
  rw [kindOf_csem]
theorem payload_at (k : Kinds) (d : Fin 15) : (Rd (F := F) m ρ).payload (kcell (c, k)) 0 d = payOf m ρ c d (some k) := by
  show payOf m ρ c d (kindOf (csem k)) = _
  rw [kindOf_csem]

theorem duties_later (g : GSem nD τ sig) : ∀ r, 1 ≤ r → (Rd (F := F) m ρ).duties g r = ∅ :=
  fun r hr => if_neg fun h => by omega

theorem duties_bar : (Rd (F := F) m ρ).duties (barCell c) 0 = Finset.univ := duties_at m ρ c (.inl ())
theorem duties_send (j : Fin 15) : (Rd (F := F) m ρ).duties (sendCell c j) 0 = {0} := duties_at m ρ c (.inr (.inl j))
theorem duties_recv (j : Fin 15) : (Rd (F := F) m ρ).duties (recvCell c j) 0 = {0} := duties_at m ρ c (.inr (.inr j))
theorem amount_bar (d : Fin 15) : (Rd (F := F) m ρ).amount (barCell c) 0 d = 1 := amount_at m ρ c (.inl ()) d
theorem amount_send (j d : Fin 15) : (Rd (F := F) m ρ).amount (sendCell c j) 0 d = N := amount_at m ρ c (.inr (.inl j)) d
theorem amount_recv (j d : Fin 15) : (Rd (F := F) m ρ).amount (recvCell c j) 0 d = N := amount_at m ρ c (.inr (.inr j)) d
theorem payload_bar (d : Fin 15) : (Rd (F := F) m ρ).payload (barCell c) 0 d = barPay c d := payload_at m ρ c (.inl ()) d
theorem payload_send (j d : Fin 15) : (Rd (F := F) m ρ).payload (sendCell c j) 0 d = sendPay m ρ c j := payload_at m ρ c (.inr (.inl j)) d
theorem payload_recv (j d : Fin 15) : (Rd (F := F) m ρ).payload (recvCell c j) 0 d = recvPay m ρ c j := payload_at m ρ c (.inr (.inr j)) d

theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_send (j : Fin 15) : (Rd (F := F) m ρ).expect (sendCell c j) 0 = N := by
  unfold Schedule.expect Schedule.amountOf; rw [duties_send, Finset.sum_singleton, amount_send]
theorem expect_recv (j : Fin 15) : (Rd (F := F) m ρ).expect (recvCell c j) 0 = N := by
  unfold Schedule.expect Schedule.amountOf; rw [duties_recv, Finset.sum_singleton, amount_recv]

/-- The barrier cell's whole round: the slot `c`'s copies fill, at each of the other devices. -/
theorem rest_bar : bigSep ((Rd (F := F) m ρ).duties (barCell c) 0 \ ∅) (fun d => (Rd (F := F) m ρ).payload (barCell c) 0 d)
    = bigSep Finset.univ (fun k : Fin 15 => barPay (F := F) c k) := by
  rw [Finset.sdiff_empty, duties_bar]
  exact bigSep_congr fun d _ => payload_bar m ρ c d
theorem rest_send (j : Fin 15) : bigSep ((Rd (F := F) m ρ).duties (sendCell c j) 0 \ ∅) (fun d => (Rd (F := F) m ρ).payload (sendCell c j) 0 d)
    = sendPay m ρ c j := by
  rw [Finset.sdiff_empty, duties_send, bigSep_singleton, payload_send]
theorem rest_recv (j : Fin 15) : bigSep ((Rd (F := F) m ρ).duties (recvCell c j) 0 \ ∅) (fun d => (Rd (F := F) m ρ).payload (recvCell c j) 0 d)
    = recvPay m ρ c j := by
  rw [Finset.sdiff_empty, duties_recv, bigSep_singleton, payload_recv]

end Sched

/-! ## What a core owes; the levels -/

/-- Owing `t j` for every `j` of a list, on top of `O`; the head of the list is paid first. -/
def oweL (t : Fin 15 → CellTallies nD τ sig Unit) (O : CellTallies nD τ sig Unit) : List (Fin 15) → CellTallies nD τ sig Unit
  | [] => O
  | j :: l => oweL t O l + t j

theorem oweL_apply (t : Fin 15 → CellTallies nD τ sig Unit) (O : CellTallies nD τ sig Unit) (g : GSem nD τ sig) (u : Unit) (l : List (Fin 15)) :
    oweL t O l g u = O g u + (l.map fun j => t j g u).sum := by
  induction l with
  | nil => rfl
  | cons j l ih =>
    show (oweL t O l + t j) g u = _
    rw [Pi.add_apply, Finsupp.add_apply, ih, List.map_cons, List.sum_cons, Nat.add_assoc, Nat.add_comm (List.sum _)]

/-- The credit of copy number `j`, owed to the receiver; -/
def oweRecv (c : Dev nD) (j : Fin 15) : CellTallies nD τ sig Unit := tallyAt (recvCell (fwd c j) j) () N
/-- the unit of signal number `j`. -/
def oweBar (c : Dev nD) (j : Fin 15) : CellTallies nD τ sig Unit := tallyAt (barCell (fwd c j)) () 1
/-- What device `c` owes after its signals; -/
def O₁ (c : Dev nD) : CellTallies nD τ sig Unit := oweL (oweRecv c) 0 (List.finRange 15)
/-- and at launch. -/
def O₀ (c : Dev nD) : CellTallies nD τ sig Unit := oweL (oweBar c) (O₁ c) (List.finRange 15)

def L (g : GSem nD τ sig) : Finset Unit := if g.1.2 = .tc then {()} else ∅
/-- A semaphore's level by its kind. -/
def lvOf : Option Kinds → ℕ
  | some (.inl _) => 1
  | some (.inr (.inr _)) => 2
  | _ => 0
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Kinds) (u : Unit) : lv (kcell (c, k)) u = lvOf (some k) := by
  show lvOf (kindOf (csem k)) = _
  rw [kindOf_csem]

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem oweL_pos {t : Fin 15 → CellTallies nD τ sig Unit} {O : CellTallies nD τ sig Unit} {g : GSem nD τ sig} {u : Unit} {l : List (Fin 15)}
    (h : 0 < oweL t O l g u) : 0 < O g u ∨ ∃ j, 0 < t j g u := by
  induction l with
  | nil => exact Or.inl h
  | cons j l ih =>
    by_cases hj : 0 < t j g u
    · exact Or.inr ⟨j, hj⟩
    · refine ih ?_
      have h : 0 < (oweL t O l + t j) g u := h
      rw [Pi.add_apply, Finsupp.add_apply] at h
      omega

/-- After the signals only receive credit is owed. -/
theorem O₁_pos {c : Dev nD} {g : GSem nD τ sig} {u : Unit} (h : 0 < O₁ c g u) : ∃ j, g = recvCell (fwd c j) j := by
  rcases oweL_pos h with h | ⟨j, h⟩
  · exact absurd h (Nat.lt_irrefl 0)
  · exact ⟨j, tallyAt_pos h⟩
/-- At launch, that and a unit to each barrier cell. -/
theorem O₀_pos {c : Dev nD} {g : GSem nD τ sig} {u : Unit} (h : 0 < O₀ c g u) :
    (∃ j, g = recvCell (fwd c j) j) ∨ ∃ j, g = barCell (fwd c j) := by
  rcases oweL_pos h with h | ⟨j, h⟩
  · exact Or.inl (O₁_pos h)
  · exact Or.inr ⟨j, tallyAt_pos h⟩

/-- A device may wait for its staging copies while it owes everything, or nothing. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by rw [Finset.mem_singleton.mp hp]; dsimp only [lv]; rw [hq]; exact Nat.le_refl 0)
      (fun g u hg => by
        rcases O₀_pos hg with ⟨j, rfl⟩ | ⟨j, rfl⟩
        · exact (lv_at (fwd c j) (.inr (.inr j)) u).symm ▸ (by decide : 0 < 2)
        · exact (lv_at (fwd c j) (.inl ()) u).symm ▸ (by decide : 0 < 1))
  · rw [MayWait_zero]; iintro -; iempintro

/-- At the barrier a device owes receive credit only, which is above. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_at c (.inl ()) ()).le)
    (fun g u hg => by
      obtain ⟨j, rfl⟩ := O₁_pos hg
      exact (lv_at (fwd c j) (.inr (.inr j)) u).symm ▸ (by decide : 1 < 2))

end Cert.KernelIdeal.Gather

end
-- ==== Proof.KernelIdeal.Program.lean ====
/-
The kernel's body as four loops.

The printed body lists fifteen signals, fifteen copies and twice fifteen waits one after the other. Here each of the four is one step,
folded over the list of the offsets, and the printed body is shown to be the folded one.
-/
module

public import proofs.«01_k».proof.Proof.KernelIdeal.Protocol

@[expose] public section

noncomputable section

namespace Cert.KernelIdeal.Gather

open Cert.KernelIdeal Cert.KernelIdeal.Gen
open Idealize.ShloMosaic
open Idealize.ShloMosaic.TcCoe
open Idealize.SL Idealize.SL.Sem

variable {F : FTy → Type} [FloatOps F]

/-- The offsets in the order in which the kernel goes through them. -/
def offs : List (Fin 15) := [0, 1, 2, 3, 4, 5, 6, 7, 8, 9, 10, 11, 12, 13, 14]
theorem offs_eq : offs = List.finRange 15 := by decide
theorem offs_nodup : offs.Nodup := by decide
theorem mem_offs (j : Fin 15) : j ∈ offs := by revert j; decide

/-- A program of a core. -/
abbrev P (F : FTy → Type) [FloatOps F] : Type 1 := Prog (TpuEff nD τ sig (Elt F) Λ₀ .tc) PUnit

/-- Signal number `j`: one unit to the barrier of the device `j + 1` places on. -/
def sigStep (c : Dev nD) (j : Fin 15) (k : P F) : P F :=
  .op (.semSignal ((sigDev j c, .tc) : Thread nD τ) barS ((1 : ℕ) : ℤ)) (fun _ => k)
/-- Copy number `j`: slot 0 into slot `j + 1` of the device `j + 1` places on. -/
def sendStep (c : Dev nD) (j : Fin 15) (k : P F) : P F :=
  .op (.enqueueDma (slotM 0) (.remote (Dev.tc (dmaDev j c)) (slotM j.succ) (.dma (sendS j))) (.dma (recvS j))
    ((View.wordExact_bits rfl).reshape _ _) ((View.wordExact_bits rfl).reshape _ _) ⟨⟨rfl, Or.inl rfl⟩, trivial⟩) (fun _ => k)
/-- The wait for the copy into the device's own slot `j + 1`; -/
def recvStep (j : Fin 15) (k : P F) : P F :=
  .op (.waitDma2 (recvS j) (slotM 0) (slotM j.succ) ((View.wordExact_bits rfl).reshape _ _) ((View.wordExact_bits rfl).reshape _ _)) (fun _ => k)
/-- the wait for copy number `j` to have read slot 0. -/
def doneStep (j : Fin 15) (k : P F) : P F :=
  .op (.waitDma2 (sendS j) (slotM j.succ) (slotM 0) ((View.wordExact_bits rfl).reshape _ _) ((View.wordExact_bits rfl).reshape _ _)) (fun _ => k)

/-- The whole of the staged block, and of the gather buffer; the two rows of the staged result. -/
abbrev xR : Rect S512x512 := Rect.unit (s := S512x512) ![0, 0] S512x512.size inb_S512x512_S512x512_0_0
abbrev gR : Rect S16x2x512 := Rect.unit (s := S16x2x512) ![0, 0, 0] S16x2x512.size inb_S16x2x512_S16x2x512_0_0_0
abbrev oR0 : Rect S2x512 := Rect.unit (s := S2x512) ![0, 0] S1x512.size inb_S2x512_S1x512_0_0
abbrev oR1 : Rect S2x512 := Rect.unit (s := S2x512) ![1, 0] S1x512.size inb_S2x512_S1x512_1_0

/-- After the copies have landed: read the gather buffer, store the two rows of the result, wait for the own copies. -/
def lastPart : P F :=
  .op (.load gM gR.toLoadRect (View.loadsAt_vmem h_S16x2x512)) fun v387 =>
  .op (.load oM oR0.toLoadRect (View.loadsAt_vmem h_S1x512)) fun _ =>
  .op (.store oM oR0 (k0_pay9 v387) Finset.univ (View.stores_vmem_bits_univ h_S1x512 rfl) (.inl rfl)) fun _ =>
  .op (.load oM oR1.toLoadRect (View.loadsAt_vmem h_S1x512)) fun _ =>
  .op (.store oM oR1 (k0_pay10 v387) Finset.univ (View.stores_vmem_bits_univ h_S1x512 rfl) (.inl rfl)) fun _ =>
  offs.foldr doneStep (.ret ⟨⟩)

/-- After the signals: the device's own pair into slot 0, the barrier, the copies. -/
def midPart (c : Dev nD) : P F :=
  .op (.load xM xR.toLoadRect (View.loadsAt_vmem h_S512x512)) fun v64 =>
  .op (.load gM (rowR 0).toLoadRect (View.loadsAt_vmem h_S1x1x512)) fun _ =>
  .op (.store gM (rowR 0) (k0_pay5 (k0_pay4 v64)) Finset.univ (View.stores_vmem_bits_univ h_S1x1x512 rfl) (.inl rfl)) fun _ =>
  .op (.load gM (rowR 1).toLoadRect (View.loadsAt_vmem h_S1x1x512)) fun _ =>
  .op (.store gM (rowR 1) (k0_pay6 (k0_pay3 (devNo c) v64)) Finset.univ (View.stores_vmem_bits_univ h_S1x1x512 rfl) (.inl rfl)) fun _ =>
  .op (.semWait barS ((15 : ℕ) : ℤ)) fun _ =>
  offs.foldr (sendStep c) (offs.foldr recvStep lastPart)

/-- The body, the device's number once read. -/
def bodyOn (c : Dev nD) : P F := offs.foldr (sigStep c) (midPart c)

set_option maxRecDepth 65536 in
set_option maxHeartbeats 4000000 in
/-- The printed body reads the device's number and continues as `bodyOn`. -/
theorem body_eq :
    cc0_body (F := F) (Memref.whole cc0_stg0_0) (Memref.isWhole_whole _) (Memref.whole cc0_stg1_0) (Memref.isWhole_whole _)
        (Memref.whole cc0_scratch0) (Memref.isWhole_whole _) cc0_scratch1 cc0_scratch2
      = .op .deviceId fun c => bodyOn c := by
  rw [cc0_body_eq_skeleton]
  unfold cc0_body_skel
  rw [k0_part19_eq_skeleton]
  unfold k0_part19_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  rfl

end Cert.KernelIdeal.Gather

end
-- ==== Proof.KernelIdeal.Steps.lean ====
/-
One step of each of the four loops, and the loop.

`wp_loop` runs a step over a list of offsets: the step takes what it needs for its own offset (`A j`), keeps something that depends on the
offsets still to come (`I l`), and leaves something for its own offset (`B j`).
-/
module

public import proofs.«01_k».proof.Proof.KernelIdeal.Program

@[expose] public section

noncomputable section

namespace Cert.KernelIdeal.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` may run `p` and ends as `Q` says. -/
abbrev runs (c : Dev nD) (p : P F) (Q : PUnit → sProp 𝕄) : sProp 𝕄 :=
  wp frame (wpE (defs₀ (F := F)) 𝒱₀ (c : Thread nD τ) none) Set.univ p Q

/-! ## Families over a list of offsets -/

/-- `Φ j` for every `j` of the list. -/
def each (l : List (Fin 15)) (Φ : Fin 15 → sProp 𝕄) : sProp 𝕄 := l.foldr (fun j P => iprop(Φ j ∗ P)) iprop(emp)

theorem each_cons (j : Fin 15) (l : List (Fin 15)) (Φ : Fin 15 → sProp 𝕄) : each (j :: l) Φ = iprop(Φ j ∗ each l Φ) := rfl

theorem bigSep_toFinset (Φ : Fin 15 → sProp 𝕄) (l : List (Fin 15)) (h : l.Nodup) : bigSep l.toFinset Φ = each l Φ := by
  induction l with
  | nil => rfl
  | cons j l ih =>
    rw [List.toFinset_cons, bigSep_insert (by rw [List.mem_toFinset]; exact (List.nodup_cons.mp h).1), ih (List.nodup_cons.mp h).2, each_cons]
    rfl

/-- A family over all the offsets is the family over their list. -/
theorem bigSep_each (Φ : Fin 15 → sProp 𝕄) : bigSep Finset.univ Φ = each offs Φ := by
  rw [← bigSep_toFinset Φ offs offs_nodup]
  exact congrArg (fun s => bigSep s Φ) (Finset.ext fun j => by simp only [Finset.mem_univ, List.mem_toFinset, mem_offs])

/-- A step that holds at every offset, run over a list of them. -/
theorem wp_loop (c : Dev nD) (R : sProp 𝕄) [BI.Persistent R] (st : Fin 15 → P F → P F) (I : List (Fin 15) → sProp 𝕄) (A B : Fin 15 → sProp 𝕄)
    (Q : PUnit → sProp 𝕄)
    (hstep : ∀ j l k, iprop(R ∗ I (j :: l) ∗ A j) ⊢ iprop(((I l ∗ B j) -∗ runs c k Q) -∗ runs c (st j k) Q)) (l : List (Fin 15)) (k : P F) :
    iprop(R ∗ I l ∗ each l A) ⊢ iprop(((I [] ∗ each l B) -∗ runs c k Q) -∗ runs c (l.foldr st k) Q) := by
  induction l with
  | nil =>
    iintro ⟨-, HI, -⟩ Hk
    iapply Hk
    isplitl [HI]; · iexact HI
    unfold each; iempintro
  | cons j l ih =>
    rw [each_cons, each_cons]
    iintro ⟨#HR, HI, HA, HAs⟩ Hk
    iapply (hstep j l (l.foldr st k)) $$ [HI HA]
    · isplitr; · iexact HR
      isplitl [HI] <;> iassumption
    iintro ⟨HI, HB⟩
    iapply ih $$ [HI HAs]
    · isplitr; · iexact HR
      isplitl [HI] <;> iassumption
    iintro ⟨HI, HBs⟩
    iapply Hk
    isplitl [HI]; · iexact HI
    isplitl [HB] <;> iassumption

/-! ## What everybody knows -/

/-- Every cell's invariant, at the names it was allocated under, and that every cell is at round 0. -/
def records (K : Dev nD × Kinds → ℕ) : sProp 𝕄 :=
  iprop((bigSep Finset.univ fun ck : Dev nD × Kinds => cellInv ER (Rd m ρ) (K ck) (kcell ck))
    ∗ bigSep Finset.univ fun ck : Dev nD × Kinds => reached ER (kcell ck) 0)

instance records_persistent (K : Dev nD × Kinds → ℕ) : BI.Persistent (records m ρ K) := by unfold records; infer_instance

variable (K : Dev nD × Kinds → ℕ)

theorem inv_at (ck : Dev nD × Kinds) : records m ρ K ⊢ cellInv ER (Rd m ρ) (K ck) (kcell ck) := by
  have h : (bigSep Finset.univ fun ck : Dev nD × Kinds => (cellInv ER (Rd m ρ) (K ck) (kcell ck) : sProp 𝕄)) ⊢ cellInv ER (Rd m ρ) (K ck) (kcell ck) :=
    bigSep_elim (Finset.mem_univ ck)
  unfold records
  iintro ⟨H, -⟩
  iapply h; iexact H
theorem reached_at (ck : Dev nD × Kinds) : records m ρ K ⊢ reached ER (kcell ck) 0 := by
  have h : (bigSep Finset.univ fun ck : Dev nD × Kinds => (reached ER (kcell ck) 0 : sProp 𝕄)) ⊢ reached ER (kcell ck) 0 :=
    bigSep_elim (Finset.mem_univ ck)
  unfold records
  iintro ⟨-, H⟩
  iapply h; iexact H

/-! ## The steps -/

section Steps
variable (c : Dev nD)

/-- A signal pays its duty at the other device's barrier with the slot that device fills here. -/
theorem sig_step (Q : PUnit → sProp 𝕄) (W : Waits sig Unit) (j : Fin 15) (l : List (Fin 15)) (k : P F) :
    iprop(records m ρ K ∗ owes (c : Thread nD τ) (oweL (oweBar c) (O₁ c) (j :: l)) W
        ∗ (dutyTok ER (barCell (fwd c j)) 0 j.rev ∗ ∃ f, slotPts c j.rev.succ fullShare f))
      ⊢ iprop(((owes (c : Thread nD τ) (oweL (oweBar c) (O₁ c) l) W ∗ emp) -∗ runs c k Q) -∗ runs c (sigStep c j k) Q) := by
  unfold sigStep
  rw [sigDev_eq]
  iintro ⟨#HR, HO, Ht, Hs⟩ Hk
  iapply (Rounds.wp_signal 𝒱₀ ER (Rd m ρ) (c : Thread nD τ) none (dst := (fwd c j : Thread nD τ)) (κ := K (fwd c j, .inl ()))
      (d := j.rev) (by rw [duties_bar]; exact Finset.mem_univ _) (amount_bar m ρ (fwd c j) j.rev) () (oweL (oweBar c) (O₁ c) l) rfl)
    $$ [HO Ht Hs]
  · isplitr; · iapply (inv_at m ρ K (fwd c j, .inl ())); iexact HR
    isplitl [HO]; · iexact HO
    isplitl [Ht]; · iexact Ht
    isplitl [Hs]
    · rw [payload_bar]; unfold barPay; rw [fwd_rev]; iexact Hs
    iapply (reached_at m ρ K (fwd c j, .inl ())); iexact HR
  iintro HO
  iapply Hk
  isplitl [HO]; · iexact HO
  iempintro

/-- A copy to the device `n` that is `j + 1` places on: it takes a share of slot 0 and that device's slot `j + 1`. -/
theorem wp_send_at (Q : PUnit → sProp 𝕄) (n : Dev nD) (j : Fin 15) (hn : n = fwd c j) {hsc : (slotM j.succ : Memref sig (Dev.tc n : Thread nD τ).2.kind .vmem S2x512 .f32).view.ref.isScScratch = false}
    {hsrc : (slotM 0).view.WordExact} {hdst : (slotM j.succ).view.WordExact}
    {hsem : DmaTarget.Typed .vmem (.dma (recvS j)) (.remote (Dev.tc n : Thread nD τ) (slotM j.succ) (.dma (sendS j)) hsc)}
    {k : PUnit → P F} (fd : Buf (Elt F) ((fwd c j : Thread nD τ).loc cc0_scratch0)) (O : CellTallies nD τ sig Unit) (W : Waits sig Unit) :
    iprop(cellInv ER (Rd m ρ) (K (c, .inr (.inl j))) (sendCell c j) ∗ cellInv ER (Rd m ρ) (K (fwd c j, .inr (.inr j))) (recvCell (fwd c j) j)
        ∗ slotPts c 0 (tok j) (gath m ρ c) ∗ slotPts (fwd c j) j.succ fullShare fd
        ∗ owes (c : Thread nD τ) (O + oweRecv c j) W
        ∗ dutyTok ER (sendCell c j) 0 0 ∗ reached ER (sendCell c j) 0
        ∗ dutyTok ER (recvCell (fwd c j) j) 0 0 ∗ reached ER (recvCell (fwd c j) j) 0)
      ⊢ iprop(((cred (tallyAt (sendCell c j) () N) ∗ owes (c : Thread nD τ) O W) -∗ runs c (k ⟨⟩) Q)
          -∗ runs c (.op (.enqueueDma (slotM 0) (.remote (Dev.tc n : Thread nD τ) (slotM j.succ) (.dma (sendS j)) hsc) (.dma (recvS j)) hsrc hdst hsem) k) Q) := by
  subst hn
  unfold slotPts
  exact Rounds.wp_send_pointsTo 𝒱₀ ER (Rd m ρ) (c : Thread nD τ) none (κ₁ := K (c, .inr (.inl j))) (κ₂ := K (fwd c j, .inr (.inr j)))
    (c' := (fwd c j : Thread nD τ)) (src := slotM 0) (dst := (slotM j.succ : Memref sig (Dev.tc (fwd c j) : Thread nD τ).2.kind .vmem S2x512 .f32))
    (r₁ := 0) (r₂ := 0) (d₁ := 0) (d₂ := 0) (fs := gath m ρ c) (fd := fd)
    (by rw [duties_send]; exact Finset.mem_singleton_self _) (by rw [duties_recv]; exact Finset.mem_singleton_self _)
    () () N rfl (amount_send m ρ c j 0) (amount_recv m ρ (fwd c j) j 0) O rfl (W := W)
    (by rw [payload_send]; exact BI.Entails.refl _)
    (by rw [payload_recv]; unfold recvPay slotPts; exact Entails.of_eq (pointsTo_congr fun i hi => landed m ρ c j fd i hi))

/-- What copy number `j` needs. -/
def sendIn (j : Fin 15) : sProp 𝕄 :=
  iprop(slotPts c 0 (tok j) (gath m ρ c) ∗ barPay c j ∗ dutyTok ER (sendCell c j) 0 0 ∗ dutyTok ER (recvCell (fwd c j) j) 0 0)

theorem send_step (Q : PUnit → sProp 𝕄) (W : Waits sig Unit) (j : Fin 15) (l : List (Fin 15)) (k : P F) :
    iprop(records m ρ K ∗ owes (c : Thread nD τ) (oweL (oweRecv c) 0 (j :: l)) W ∗ sendIn m ρ c j)
      ⊢ iprop(((owes (c : Thread nD τ) (oweL (oweRecv c) 0 l) W ∗ cred (tallyAt (sendCell c j) () N)) -∗ runs c k Q) -∗ runs c (sendStep c j k) Q) := by
  unfold sendStep sendIn barPay
  iintro ⟨#HR, HO, Hsrc, ⟨%fd, Hdst⟩, HtS, HtR⟩ Hk
  iapply (wp_send_at m ρ K c Q (dmaDev j c) j (dmaDev_eq j c) fd (oweL (oweRecv c) 0 l) W) $$ [HO Hsrc Hdst HtS HtR]
  · isplitr; · iapply (inv_at m ρ K (c, .inr (.inl j))); iexact HR
    isplitr; · iapply (inv_at m ρ K (fwd c j, .inr (.inr j))); iexact HR
    isplitl [Hsrc]; · iexact Hsrc
    isplitl [Hdst]; · iexact Hdst
    isplitl [HO]; · iexact HO
    isplitl [HtS]; · iexact HtS
    isplitr; · iapply (reached_at m ρ K (c, .inr (.inl j))); iexact HR
    isplitl [HtR]; · iexact HtR
    iapply (reached_at m ρ K (fwd c j, .inr (.inr j))); iexact HR
  iintro ⟨Hc, HO⟩
  iapply Hk
  isplitl [HO] <;> iassumption

/-- Nothing owed, whatever waits have been made. -/
def free (_ : List (Fin 15)) : sProp 𝕄 := iprop(∃ W, owes (c : Thread nD τ) 0 W)

/-- A wait for a copy into the own slot `j + 1`: the cell closes and the slot is there, filled. -/
theorem recv_step (Q : PUnit → sProp 𝕄) (j : Fin 15) (l : List (Fin 15)) (k : P F) :
    iprop(records m ρ K ∗ free c (j :: l) ∗ (cred (tallyAt (recvCell c j) () N) ∗ atPos ER (recvCell c j) 0 ∅ 0))
      ⊢ iprop(((free c l ∗ (semVal (recvCell c j) 0 ∗ recvPay m ρ c j)) -∗ runs c k Q) -∗ runs c (recvStep j k) Q) := by
  unfold recvStep free
  iintro ⟨#HR, ⟨%W, HO⟩, Hc, Hat⟩ Hk
  iapply (Rounds.wp_wait_rest_token 𝒱₀ ER (Rd m ρ) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iapply (inv_at m ρ K (c, .inr (.inr j))); iexact HR
    isplitl [Hc]; · iexact Hc
    isplitl [HO]; · iexact HO
    isplitr; · rw [MayWait_zero]; iempintro
    iexact Hat
  iintro ⟨HO, Hat, -, Hpay⟩
  ihave Hp := (Entails.of_eq (rest_recv m ρ c j)) $$ Hpay
  imod (Rounds.cell_close ER (Rd m ρ) (Set.mem_univ (K (c, .inr (.inr j)))) (fun h => h) (R := 0 + 1) (duties_later m ρ (recvCell c j))) $$ [Hat] with Hz
  · isplitr; · iapply (inv_at m ρ K (c, .inr (.inr j))); iexact HR
    iexact Hat
  iapply Hk
  isplitl [HO]; · iexists _; iexact HO
  isplitl [Hz] <;> iassumption

/-- A wait for copy number `j` to have read slot 0: the cell closes and the share is back. -/
theorem done_step (Q : PUnit → sProp 𝕄) (j : Fin 15) (l : List (Fin 15)) (k : P F) :
    iprop(records m ρ K ∗ free c (j :: l) ∗ (cred (tallyAt (sendCell c j) () N) ∗ atPos ER (sendCell c j) 0 ∅ 0))
      ⊢ iprop(((free c l ∗ (semVal (sendCell c j) 0 ∗ sendPay m ρ c j)) -∗ runs c k Q) -∗ runs c (doneStep j k) Q) := by
  unfold doneStep free
  iintro ⟨#HR, ⟨%W, HO⟩, Hc, Hat⟩ Hk
  iapply (Rounds.wp_wait_rest_token 𝒱₀ ER (Rd m ρ) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_at m ρ K (c, .inr (.inl j))); iexact HR
    isplitl [Hc]; · iexact Hc
    isplitl [HO]; · iexact HO
    isplitr; · rw [MayWait_zero]; iempintro
    iexact Hat
  iintro ⟨HO, Hat, -, Hpay⟩
  ihave Hp := (Entails.of_eq (rest_send m ρ c j)) $$ Hpay
  imod (Rounds.cell_close ER (Rd m ρ) (Set.mem_univ (K (c, .inr (.inl j)))) (fun h => h) (R := 0 + 1) (duties_later m ρ (sendCell c j))) $$ [Hat] with Hz
  · isplitr; · iapply (inv_at m ρ K (c, .inr (.inl j))); iexact HR
    iexact Hat
  iapply Hk
  isplitl [HO]; · iexists _; iexact HO
  isplitl [Hz] <;> iassumption

end Steps

/-! ## The gather buffer taken apart and put together -/

/-- The whole buffer at a share is slot 0 and the other fifteen slots at that share. -/
theorem whole_slots (c : Dev nD) (q : PosShare TreeShare) (f : Buf (Elt F) ((c : Thread nD τ).loc cc0_scratch0)) :
    (((c : Thread nD τ).loc cc0_scratch0) ↦{q} f : sProp 𝕄)
      = iprop(slotPts c 0 q f ∗ bigSep Finset.univ fun j : Fin 15 => slotPts c j.succ q f) := by
  have h1 : (((c : Thread nD τ).loc cc0_scratch0) ↦{q} f : sProp 𝕄) = bigSep Finset.univ fun s : Fin 16 => slotPts c s q f := by
    unfold slotPts
    have e := pointsTo_biUnion (Ix := Unit) (Name := ℕ) (U := UU) (Lvl := ℕ) (ℓ := (c : Thread nD τ).loc cc0_scratch0) (q := q) (f := f)
      (Finset.univ : Finset (Fin 16)) slotS (fun s _ t _ h => slotS_disjoint h)
    rw [slotS_cover] at e
    exact e
  rw [h1, Fin.univ_succ, Finset.cons_eq_insert, bigSep_insert (by simp), bigSep_map]
  rfl

/-- A slot at the full share is the slot at the two halves. -/
theorem slot_halves (c : Dev nD) (s : Fin 16) (f : Buf (Elt F) ((c : Thread nD τ).loc cc0_scratch0)) :
    slotPts (F := F) c s fullShare f = iprop(slotPts c s fullShare.left f ∗ slotPts c s fullShare.right f) := by
  unfold slotPts
  exact Idealize.SL.BI.Entails.antisymm (pointsTo_share (PosShare.mem_left_op_right fullShare)).1
    (pointsTo_share (PosShare.mem_left_op_right fullShare)).2

/-- Slot 0 at the right half is a remainder and the fifteen shares the copies read through. -/
theorem slot_toks (c : Dev nD) (f : Buf (Elt F) ((c : Thread nD τ).loc cc0_scratch0)) :
    slotPts (F := F) c 0 fullShare.right f
      = iprop(slotPts c 0 (Transfers.shareDrop fullShare.right 15) f ∗ bigSep Finset.univ fun j : Fin 15 => slotPts c 0 (tok j) f) := by
  unfold slotPts
  exact Idealize.SL.BI.Entails.antisymm (Transfers.pointsTo_toks fullShare.right 15).1 (Transfers.pointsTo_toks fullShare.right 15).2

end Cert.KernelIdeal.Gather

end
-- ==== Proof.KernelIdeal.Body.lean ====
/-
The body of the kernel on one device, from what the launch deals it to the result staged and every cell closed.
-/
module

public import proofs.«01_k».proof.Proof.KernelIdeal.Steps

@[expose] public section

noncomputable section

namespace Cert.KernelIdeal.Gather

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- The result on device `c`: row 0 the maxima over the sixteen slots, row 1 where the first of them stands. -/
def outAt (c : Dev nD) : (cc0_stg1_0 : Ref sig .tc).ty.Contents (Elt F) :=
  fun i => if (i 0).val = 0 then k0_pay9 (gath m ρ c) (ix2 0 (i 1)) else k0_pay10 (gath m ρ c) (ix2 0 (i 1))

theorem oRow_inb (r : Fin 2) : ∀ a, (![r.val, 0] : Fin 2 → Nat) a + S1x512.size a ≤ S2x512.size a := by
  intro a
  have := r.isLt
  match a with
  | ⟨0, _⟩ => show r.val + 1 ≤ 2; omega
  | ⟨1, _⟩ => show 0 + 512 ≤ 512; omega
/-- Row `r` of the staged result. -/
abbrev oRow (r : Fin 2) : Rect S2x512 := Rect.unit (s := S2x512) ![r.val, 0] S1x512.size (oRow_inb r)

omit [FloatOps F] in
/-- A store into row `r` of the result leaves the stored value in that row. -/
theorem oRow_write_same (r : Fin 2) (f : (cc0_stg1_0 : Ref sig .tc).ty.Contents (Elt F)) (w : (oRow r).shape.Idx → Elt F .f32)
    (i : S2x512.Idx) (h0 : (i 0).val = r.val) :
    (oM.access (oRow r)).write (Elt F) f w Finset.univ i = w (ix2 0 (i 1)) := by
  have e : (oM.access (oRow r)).emb (ix2 0 (i 1) : S1x512.Idx) = i := by
    show (oRow r).emb (ix2 0 (i 1) : S1x512.Idx) = i
    funext a
    refine Fin.ext ?_
    match a with
    | ⟨0, _⟩ => show r.val + 1 * 0 = (i 0).val; omega
    | ⟨1, _⟩ => show 0 + 1 * (i 1).val = (i 1).val; omega
  have hw := View.write_emb_of_mem (v := oM.access (oRow r)) (Val := Elt F) f w (Finset.mem_univ (ix2 0 (i 1) : S1x512.Idx))
  exact (congrArg ((oM.access (oRow r)).write (Elt F) f w Finset.univ) e.symm).trans hw

omit [FloatOps F] in
/-- A store into row `r` of the result leaves the other row. -/
theorem oRow_write_other (r : Fin 2) (f : (cc0_stg1_0 : Ref sig .tc).ty.Contents (Elt F)) (w : (oRow r).shape.Idx → Elt F .f32)
    (i : S2x512.Idx) (h0 : (i 0).val ≠ r.val) :
    (oM.access (oRow r)).write (Elt F) f w Finset.univ i = f i := by
  have hn : i ∉ (oM.access (oRow r)).setOn Finset.univ := by
    intro hi
    have hi : i ∈ ((View.whole cc0_stg1_0).slice (oRow r)).set := hi
    rw [View.set_slice_whole, Rect.mem_set_unit] at hi
    have h := hi (0 : Fin 2)
    have e1 : (![r.val, 0] : Fin 2 → Nat) 0 = r.val := rfl
    have e2 : S1x512.size 0 = 1 := rfl
    rw [e1, e2] at h
    omega
  exact View.write_of_not_mem (v := oM.access (oRow r)) (Val := Elt F) f w Finset.univ hn

/-- After the two stores the staged result is `outAt`, whatever it was. -/
theorem out_stored (c : Dev nD) (f : (cc0_stg1_0 : Ref sig .tc).ty.Contents (Elt F)) :
    (oM.access (oRow 1)).write (Elt F) ((oM.access (oRow 0)).write (Elt F) f (k0_pay9 (gath m ρ c)) Finset.univ) (k0_pay10 (gath m ρ c)) Finset.univ
      = outAt m ρ c := by
  funext i
  have h1 : (i 0).val < 2 := (i 0).isLt
  show _ = if (i 0).val = 0 then k0_pay9 (gath m ρ c) (ix2 0 (i 1)) else k0_pay10 (gath m ρ c) (ix2 0 (i 1))
  by_cases h : (i 0).val = 0
  · rw [if_pos h, oRow_write_other 1 _ _ i (by rw [h]; decide), oRow_write_same 0 _ _ i h]
  · rw [if_neg h, oRow_write_same 1 _ _ i (by show (i 0).val = 1; omega)]

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
/-- Loading the whole of a buffer gives its contents. -/
theorem read_x (f : (cc0_stg0_0 : Ref sig .tc).ty.Contents (Elt F)) : xM.view.readAt (Elt F) xR.toLoadRect f = f :=
  Memref.readAt_unit_zero (Elt F) cc0_stg0_0 hz2 _ f
omit [FloatOps F] in
theorem read_g (f : (cc0_scratch0 : Ref sig .tc).ty.Contents (Elt F)) : gM.view.readAt (Elt F) gR.toLoadRect f = f :=
  Memref.readAt_unit_zero (Elt F) cc0_scratch0 hz3 _ f

/-! ## Joining the shares -/

/-- The gather buffer whole at a share. -/
abbrev wholeG (c : Dev nD) (q : PosShare TreeShare) (f : Buf (Elt F) ((c : Thread nD τ).loc cc0_scratch0)) : sProp 𝕄 :=
  ((c : Thread nD τ).loc cc0_scratch0) ↦{q} f

theorem whole_halves (c : Dev nD) (f : Buf (Elt F) ((c : Thread nD τ).loc cc0_scratch0)) :
    wholeG (F := F) c fullShare f = iprop(wholeG c fullShare.left f ∗ wholeG c fullShare.right f) :=
  Idealize.SL.BI.Entails.antisymm (pointsTo_share (PosShare.mem_left_op_right fullShare)).1
    (pointsTo_share (PosShare.mem_left_op_right fullShare)).2

theorem slots_halves (c : Dev nD) (f : Buf (Elt F) ((c : Thread nD τ).loc cc0_scratch0)) :
    (bigSep Finset.univ fun j : Fin 15 => slotPts (F := F) c j.succ fullShare f)
      = iprop((bigSep Finset.univ fun j : Fin 15 => slotPts (F := F) c j.succ fullShare.left f)
          ∗ bigSep Finset.univ fun j : Fin 15 => slotPts (F := F) c j.succ fullShare.right f) := by
  rw [← bigSep_sep']
  exact bigSep_congr fun j _ => slot_halves c j.succ f

/-- Half of slot 0 and the other slots make the buffer at that half, and leave the slots' other halves. -/
theorem join_left (c : Dev nD) (f : Buf (Elt F) ((c : Thread nD τ).loc cc0_scratch0)) :
    iprop(slotPts (F := F) c 0 fullShare.left f ∗ bigSep Finset.univ fun j : Fin 15 => slotPts (F := F) c j.succ fullShare f)
      ⊢ iprop(wholeG (F := F) c fullShare.left f ∗ bigSep Finset.univ fun j : Fin 15 => slotPts (F := F) c j.succ fullShare.right f) := by
  rw [slots_halves, show wholeG (F := F) c fullShare.left f = _ from whole_slots c fullShare.left f]
  iintro ⟨H0, HL, HR⟩
  isplitl [H0 HL]
  · isplitl [H0] <;> iassumption
  iexact HR

/-- With the copies' shares back the buffer is whole. -/
theorem join_all (c : Dev nD) (f : Buf (Elt F) ((c : Thread nD τ).loc cc0_scratch0)) :
    iprop(wholeG (F := F) c fullShare.left f ∗ (bigSep Finset.univ fun j : Fin 15 => slotPts (F := F) c j.succ fullShare.right f)
        ∗ slotPts (F := F) c 0 (Transfers.shareDrop fullShare.right 15) f ∗ bigSep Finset.univ fun j : Fin 15 => slotPts (F := F) c 0 (tok j) f)
      ⊢ wholeG (F := F) c fullShare f := by
  rw [whole_halves, show wholeG (F := F) c fullShare.right f = _ from whole_slots c fullShare.right f, slot_toks]
  iintro ⟨HL, HR, Hd, Ht⟩
  isplitl [HL]; · iexact HL
  isplitl [Hd Ht]
  · isplitl [Hd] <;> iassumption
  iexact HR

/-! ## What the launch deals a device, what the device ends with -/

variable (K : Dev nD × Kinds → ℕ)

/-- The tokens of the duties device `c` pays: a barrier duty at each other device, a receive duty at each other device, its own send duties. -/
def payToks (c : Dev nD) : sProp 𝕄 :=
  iprop((bigSep Finset.univ fun j : Fin 15 => dutyTok ER (barCell (fwd c j)) 0 j.rev)
    ∗ (bigSep Finset.univ fun j : Fin 15 => dutyTok ER (recvCell (fwd c j) j) 0 0)
    ∗ bigSep Finset.univ fun j : Fin 15 => dutyTok ER (sendCell c j) 0 0)
/-- Its positions at its own cells. -/
def positions (c : Dev nD) : sProp 𝕄 :=
  iprop(atPos ER (barCell c) 0 ∅ 0 ∗ (bigSep Finset.univ fun j : Fin 15 => atPos ER (sendCell c j) 0 ∅ 0)
    ∗ bigSep Finset.univ fun j : Fin 15 => atPos ER (recvCell c j) 0 ∅ 0)
def ghost (c : Dev nD) : sProp 𝕄 := iprop(records m ρ K ∗ positions c ∗ payToks c)

/-- What the body starts from beside the buffers: the exchange's state, credit for its waits, the levels. -/
def start (c : Dev nD) : sProp 𝕄 :=
  iprop((∃ K, ghost m ρ K c) ∗ cred (tallyAt (barCell c) () 15) ∗ (bigSep Finset.univ fun j : Fin 15 => cred (tallyAt (recvCell c j) () N)) ∗ levAts L lv)
def Φ₀ (c : Dev nD) : sProp 𝕄 := iprop(start m ρ c ∗ ∃ f, wholeG c fullShare f)
/-- What it ends with: the gather buffer, and every cell closed at zero. -/
def Φ₁ (c : Dev nD) : sProp 𝕄 :=
  iprop((∃ f, wholeG (F := F) c fullShare f) ∗ (bigSep Finset.univ fun j : Fin 15 => semVal (sendCell c j) 0)
    ∗ (bigSep Finset.univ fun j : Fin 15 => semVal (recvCell c j) 0) ∗ semVal (barCell c) 0)

/-! ## The three parts -/

/-- A program that has returned. -/
theorem runs_ret (c : Dev nD) (Q : PUnit → sProp 𝕄) : Q ⟨⟩ ⊢ runs (F := F) c (.ret ⟨⟩) Q := by
  unfold runs
  rw [wp_ret]
  iintro H; imodintro; iexact H

/-- What the last part ends with beside the closed barrier cell. -/
def doneOut (c : Dev nD) : sProp 𝕄 :=
  iprop((∃ f, wholeG (F := F) c fullShare f) ∗ (bigSep Finset.univ fun j : Fin 15 => semVal (sendCell c j) 0)
    ∗ (bigSep Finset.univ fun j : Fin 15 => semVal (recvCell c j) 0) ∗ (∃ W, owes (c : Thread nD τ) 0 W)
    ∗ (((c : Thread nD τ).loc cc0_stg1_0) ↦{fullShare} outAt m ρ c))

set_option maxHeartbeats 1600000 in
/-- Everything landed: the result is computed from the gather buffer, and the own copies are waited for. -/
theorem wp_last (c : Dev nD) (Q : PUnit → sProp 𝕄) (fo : Buf (Elt F) ((c : Thread nD τ).loc cc0_stg1_0)) :
    iprop(records m ρ K ∗ free c [] ∗ (each offs fun j => iprop(semVal (recvCell c j) 0 ∗ recvPay m ρ c j))
        ∗ slotPts c 0 fullShare.left (gath m ρ c) ∗ slotPts c 0 (Transfers.shareDrop fullShare.right 15) (gath m ρ c)
        ∗ (each offs fun j => cred (tallyAt (sendCell c j) () N)) ∗ (bigSep Finset.univ fun j : Fin 15 => atPos ER (sendCell c j) 0 ∅ 0)
        ∗ (((c : Thread nD τ).loc cc0_stg1_0) ↦{fullShare} fo))
      ⊢ iprop((doneOut m ρ c -∗ Q ⟨⟩) -∗ runs c lastPart Q) := by
  rw [← bigSep_each, ← bigSep_each, bigSep_sep']
  unfold lastPart recvPay
  iintro ⟨#HR, HO, ⟨Hzr, Hslots⟩, Hl, Hd, Hc, Hat, Hout⟩ Hk
  ihave H := (join_left c (gath m ρ c)) $$ [Hl Hslots]
  · isplitl [Hl] <;> iassumption
  icases H with ⟨Hg, Hright⟩
  iapply (wp_load 𝒱₀ (c : Thread nD τ) none Set.univ (m := gM) (Finset.subset_univ _)) $$ Hg; iintro Hg
  rw [read_g]
  iapply (wp_load 𝒱₀ (c : Thread nD τ) none Set.univ (m := oM) (Finset.subset_univ _)) $$ Hout; iintro Hout
  iapply (wp_store 𝒱₀ (c : Thread nD τ) none Set.univ (m := oM) (r := oRow 0) (Mk := Finset.univ) (Finset.subset_univ _)) $$ Hout; iintro Hout
  iapply (wp_load 𝒱₀ (c : Thread nD τ) none Set.univ (m := oM) (Finset.subset_univ _)) $$ Hout; iintro Hout
  iapply (wp_store 𝒱₀ (c : Thread nD τ) none Set.univ (m := oM) (r := oRow 1) (Mk := Finset.univ) (Finset.subset_univ _)) $$ Hout; iintro Hout
  ihave Ha := (Entails.of_eq ((bigSep_sep' Finset.univ (fun j : Fin 15 => (cred (tallyAt (sendCell c j) () N) : sProp 𝕄))
    (fun j => atPos ER (sendCell c j) 0 ∅ 0)).symm.trans (bigSep_each _))) $$ [Hc Hat]
  · isplitl [Hc] <;> iassumption
  iapply (wp_loop c (records m ρ K) doneStep (free c) _ _ Q (fun j l k => done_step m ρ K c Q j l k) offs (.ret ⟨⟩)) $$ [HO Ha]
  · isplitr; · iexact HR
    isplitl [HO]; · iexact HO
    iexact Ha
  iintro ⟨HO, HB⟩
  ihave Hb := (Entails.of_eq ((bigSep_each _).symm.trans (bigSep_sep' Finset.univ (fun j : Fin 15 => (semVal (sendCell c j) 0 : sProp 𝕄))
    (fun j => sendPay m ρ c j)))) $$ HB
  icases Hb with ⟨Hzs, Htoks⟩
  unfold sendPay
  ihave Hall := (join_all c (gath m ρ c)) $$ [Hg Hright Hd Htoks]
  · isplitl [Hg]; · iexact Hg
    isplitl [Hright]; · iexact Hright
    isplitl [Hd] <;> iassumption
  iapply (runs_ret c Q)
  iapply Hk
  unfold doneOut free
  isplitl [Hall]; · iexists _; iexact Hall
  isplitl [Hzs]; · iexact Hzs
  isplitl [Hzr]; · iexact Hzr
  isplitl [HO]; · iexact HO
  rw [← out_stored m ρ c fo]
  iexact Hout

/-- What the fifteen copies start from. -/
theorem sends_in (c : Dev nD) :
    iprop((bigSep Finset.univ fun j : Fin 15 => slotPts c 0 (tok j) (gath m ρ c)) ∗ (bigSep Finset.univ fun j : Fin 15 => barPay c j)
        ∗ (bigSep Finset.univ fun j : Fin 15 => dutyTok ER (sendCell c j) 0 0) ∗ bigSep Finset.univ fun j : Fin 15 => dutyTok ER (recvCell (fwd c j) j) 0 0)
      ⊢ each offs (sendIn m ρ c) := by
  rw [← bigSep_sep', ← bigSep_sep', ← bigSep_sep', bigSep_each]
  exact Entails.refl _

set_option maxHeartbeats 1600000 in
/-- The barrier passed: the copies, the waits for the others' copies, the result. -/
theorem wp_exchange (c : Dev nD) (Q : PUnit → sProp 𝕄) (W : Waits sig Unit) (fo : Buf (Elt F) ((c : Thread nD τ).loc cc0_stg1_0)) :
    iprop(records m ρ K ∗ owes (c : Thread nD τ) (O₁ c) W ∗ slotPts c 0 fullShare (gath m ρ c) ∗ (bigSep Finset.univ fun j : Fin 15 => barPay c j)
        ∗ (bigSep Finset.univ fun j : Fin 15 => dutyTok ER (sendCell c j) 0 0) ∗ (bigSep Finset.univ fun j : Fin 15 => dutyTok ER (recvCell (fwd c j) j) 0 0)
        ∗ (bigSep Finset.univ fun j : Fin 15 => cred (tallyAt (recvCell c j) () N)) ∗ (bigSep Finset.univ fun j : Fin 15 => atPos ER (recvCell c j) 0 ∅ 0)
        ∗ (bigSep Finset.univ fun j : Fin 15 => atPos ER (sendCell c j) 0 ∅ 0)
        ∗ (((c : Thread nD τ).loc cc0_stg1_0) ↦{fullShare} fo))
      ⊢ iprop((doneOut m ρ c -∗ Q ⟨⟩) -∗ runs c (offs.foldr (sendStep c) (offs.foldr recvStep lastPart)) Q) := by
  rw [slot_halves, slot_toks]
  unfold O₁
  rw [← offs_eq]
  iintro ⟨#HR, HO, ⟨Hl, Hd, Ht⟩, Hbar, HtS, HtV, HcV, HatV, HatS, Hout⟩ Hk
  ihave Hin := (sends_in m ρ c) $$ [Ht Hbar HtS HtV]
  · isplitl [Ht]; · iexact Ht
    isplitl [Hbar]; · iexact Hbar
    isplitl [HtS] <;> iassumption
  iapply (wp_loop c (records m ρ K) (sendStep c) (fun l => owes (c : Thread nD τ) (oweL (oweRecv c) 0 l) W) (sendIn m ρ c) _ Q
    (fun j l k => send_step m ρ K c Q W j l k) offs _) $$ [HO Hin]
  · isplitr; · iexact HR
    isplitl [HO]; · iexact HO
    iexact Hin
  iintro ⟨HO, Hcs⟩
  ihave Hin := (Entails.of_eq ((bigSep_sep' Finset.univ (fun j : Fin 15 => (cred (tallyAt (recvCell c j) () N) : sProp 𝕄))
    (fun j => atPos ER (recvCell c j) 0 ∅ 0)).symm.trans (bigSep_each _))) $$ [HcV HatV]
  · isplitl [HcV] <;> iassumption
  iapply (wp_loop c (records m ρ K) recvStep (free c) _ _ Q (fun j l k => recv_step m ρ K c Q j l k) offs lastPart) $$ [HO Hin]
  · isplitr; · iexact HR
    isplitl [HO]; · unfold free; iexists W; iexact HO
    iexact Hin
  iintro ⟨HO, Hrecv⟩
  iapply (wp_last m ρ K c Q fo) $$ [HO Hrecv Hl Hd Hcs HatS Hout]
  · isplitr; · iexact HR
    isplitl [HO]; · iexact HO
    isplitl [Hrecv]; · iexact Hrecv
    isplitl [Hl]; · iexact Hl
    isplitl [Hd]; · iexact Hd
    isplitl [Hcs]; · iexact Hcs
    isplitl [HatS] <;> iassumption
  iexact Hk

/-- Slot 0 after the two stores into it. -/
theorem slot0_stored (c : Dev nD) (f : Buf (Elt F) ((c : Thread nD τ).loc cc0_scratch0)) :
    slotPts c 0 fullShare ((gM.access (rowR 1)).write (Elt F) ((gM.access (rowR 0)).write (Elt F) f (best m ρ c) Finset.univ) (place m ρ c) Finset.univ)
      ⊢ slotPts c 0 fullShare (gath m ρ c) :=
  Entails.of_eq (pointsTo_congr fun i hi => stored m ρ c f i hi)

/-- What is left of the body after the signals, with the closed barrier cell. -/
def midOut (c : Dev nD) : sProp 𝕄 :=
  iprop(doneOut m ρ c ∗ semVal (barCell c) 0 ∗ (((c : Thread nD τ).loc cc0_stg0_0) ↦{fullShare} xstg m ρ c))

set_option maxHeartbeats 1600000 in
/-- The signals given: the device's own pair is computed and stored, the barrier waited for, the pairs exchanged. -/
theorem wp_mid (c : Dev nD) (Q : PUnit → sProp 𝕄) (W : Waits sig Unit) (f : Buf (Elt F) ((c : Thread nD τ).loc cc0_scratch0))
    (fo : Buf (Elt F) ((c : Thread nD τ).loc cc0_stg1_0)) :
    iprop(records m ρ K ∗ levAts L lv ∗ owes (c : Thread nD τ) (O₁ c) W ∗ slotPts c 0 fullShare f
        ∗ (cred (tallyAt (barCell c) () 15) ∗ atPos ER (barCell c) 0 ∅ 0)
        ∗ (bigSep Finset.univ fun j : Fin 15 => dutyTok ER (sendCell c j) 0 0) ∗ (bigSep Finset.univ fun j : Fin 15 => dutyTok ER (recvCell (fwd c j) j) 0 0)
        ∗ (bigSep Finset.univ fun j : Fin 15 => cred (tallyAt (recvCell c j) () N)) ∗ (bigSep Finset.univ fun j : Fin 15 => atPos ER (recvCell c j) 0 ∅ 0)
        ∗ (bigSep Finset.univ fun j : Fin 15 => atPos ER (sendCell c j) 0 ∅ 0)
        ∗ (((c : Thread nD τ).loc cc0_stg0_0) ↦{fullShare} xstg m ρ c) ∗ (((c : Thread nD τ).loc cc0_stg1_0) ↦{fullShare} fo))
      ⊢ iprop((midOut m ρ c -∗ Q ⟨⟩) -∗ runs c (midPart c) Q) := by
  unfold midPart
  iintro ⟨#HR, #Hlev, HO, Hs, ⟨HcB, HatB⟩, HtS, HtV, HcV, HatV, HatS, Hx, Hout⟩ Hk
  iapply (wp_load 𝒱₀ (c : Thread nD τ) none Set.univ (m := xM) (Finset.subset_univ _)) $$ Hx; iintro Hx
  rw [read_x]
  unfold slotPts
  iapply (wp_load_rect 𝒱₀ (c : Thread nD τ) none Set.univ (m := gM) (r := rowR 0) (rowR_subset 0)) $$ Hs; iintro Hs
  iapply (wp_store 𝒱₀ (c : Thread nD τ) none Set.univ (m := gM) (r := rowR 0) (Mk := Finset.univ) (rowR_subset 0)) $$ Hs; iintro Hs
  iapply (wp_load_rect 𝒱₀ (c : Thread nD τ) none Set.univ (m := gM) (r := rowR 1) (rowR_subset 1)) $$ Hs; iintro Hs
  iapply (wp_store 𝒱₀ (c : Thread nD τ) none Set.univ (m := gM) (r := rowR 1) (Mk := Finset.univ) (rowR_subset 1)) $$ Hs; iintro Hs
  ihave Hs := (slot0_stored m ρ c f) $$ [Hs]
  · unfold slotPts; iexact Hs
  iapply (Rounds.wp_wait_rest_token 𝒱₀ ER (Rd m ρ) (c : Thread nD τ) none (κ := K (c, .inl ()))
      (wpE_semWait_eq 𝒱₀ (c : Thread nD τ) none Set.univ) (Set.mem_univ _) () (O := O₁ c) (W := W) (R := 0) (m := 0) (T := ∅)
      (by rw [Nat.zero_add, expect_bar])) $$ [HcB HO HatB]
  · isplitr; · iapply (inv_at m ρ K (c, .inl ())); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close ER (Rd m ρ) (Set.mem_univ (K (c, .inl ()))) (fun h => h) (R := 0 + 1) (duties_later m ρ (barCell c))) $$ [HatB] with HzB
  · isplitr; · iapply (inv_at m ρ K (c, .inl ())); iexact HR
    iexact HatB
  iapply (wp_exchange m ρ K c Q _ fo) $$ [HO Hs Hp HtS HtV HcV HatV HatS Hout]
  · isplitr; · iexact HR
    isplitl [HO]; · iexact HO
    isplitl [Hs]; · iexact Hs
    isplitl [Hp]; · iexact Hp
    isplitl [HtS]; · iexact HtS
    isplitl [HtV]; · iexact HtV
    isplitl [HcV]; · iexact HcV
    isplitl [HatV]; · iexact HatV
    isplitl [HatS]; · iexact HatS
    iexact Hout
  iintro Hdone
  iapply Hk
  unfold midOut
  isplitl [Hdone]; · iexact Hdone
  isplitl [HzB] <;> iassumption

/-- What the fifteen signals start from: each pays with the slot the other device's copy lands in. -/
theorem sigs_in (c : Dev nD) (f : Buf (Elt F) ((c : Thread nD τ).loc cc0_scratch0)) :
    iprop((bigSep Finset.univ fun j : Fin 15 => dutyTok ER (barCell (fwd c j)) 0 j.rev) ∗ bigSep Finset.univ fun j : Fin 15 => slotPts c j.succ fullShare f)
      ⊢ each offs fun j => iprop(dutyTok ER (barCell (fwd c j)) 0 j.rev ∗ ∃ f, slotPts (F := F) c j.rev.succ fullShare f) := by
  rw [bigSep_univ_equiv Fin.revPerm fun j : Fin 15 => slotPts c j.succ fullShare f, ← bigSep_sep', ← bigSep_each]
  refine bigSep_mono fun j _ => ?_
  show iprop(dutyTok ER (barCell (fwd c j)) 0 j.rev ∗ slotPts c j.rev.succ fullShare f) ⊢ _
  iintro ⟨H, Hs⟩
  isplitl [H]; · iexact H
  iexists f; iexact Hs

set_option maxHeartbeats 1600000 in
/-- The body, once it knows its device's number. -/
theorem wp_bodyOn (c : Dev nD) (Q : PUnit → sProp 𝕄) (W : Waits sig Unit) (fo : Buf (Elt F) ((c : Thread nD τ).loc cc0_stg1_0)) :
    iprop(Φ₀ m ρ c ∗ owes (c : Thread nD τ) (O₀ c) W
        ∗ (((c : Thread nD τ).loc cc0_stg0_0) ↦{fullShare} xstg m ρ c) ∗ (((c : Thread nD τ).loc cc0_stg1_0) ↦{fullShare} fo))
      ⊢ iprop((midOut m ρ c -∗ Q ⟨⟩) -∗ runs c (bodyOn c) Q) := by
  unfold Φ₀ start ghost positions payToks bodyOn O₀
  rw [← offs_eq]
  iintro ⟨⟨⟨⟨%K, #HR, ⟨HatB, HatS, HatV⟩, HtB, HtV, HtS⟩, HcB, HcV, #Hlev⟩, %f, Hg⟩, HO, Hx, Hout⟩ Hk
  ihave Hg := (Entails.of_eq (whole_slots c fullShare f)) $$ Hg
  icases Hg with ⟨Hs, Hrest⟩
  ihave Hin := (sigs_in c f) $$ [HtB Hrest]
  · isplitl [HtB] <;> iassumption
  iapply (wp_loop c (records m ρ K) (sigStep c) (fun l => owes (c : Thread nD τ) (oweL (oweBar c) (O₁ c) l) W) _ (fun _ => iprop(emp)) Q
    (fun j l k => sig_step m ρ K c Q W j l k) offs (midPart c)) $$ [HO Hin]
  · isplitr; · iexact HR
    isplitl [HO]; · iexact HO
    iexact Hin
  iintro ⟨HO, -⟩
  iapply (wp_mid m ρ K c Q W f fo) $$ [HO Hs HcB HatB HtS HtV HcV HatV HatS Hx Hout]
  · isplitr; · iexact HR
    isplitr; · iexact Hlev
    isplitl [HO]; · iexact HO
    isplitl [Hs]; · iexact Hs
    isplitl [HcB HatB]; · isplitl [HcB] <;> iassumption
    isplitl [HtS]; · iexact HtS
    isplitl [HtV]; · iexact HtV
    isplitl [HcV]; · iexact HcV
    isplitl [HatV]; · iexact HatV
    isplitl [HatS]; · iexact HatS
    isplitl [Hx] <;> iassumption
  iexact Hk

/-! ## The body's obligation -/

/-- What the launch takes of device `c`: the staged buffers' contents before and after, the invariant at the two ends, what is owed there. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- The launch's one grid point. -/
def t₀ : Fin cfg0.N := t0_0
theorem fin_N (t : Fin cfg0.N) : t = t₀ := fin_N0 t

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xstg m ρ c) ∗ stg c cc0_stg1_0 (outAt m ρ c))

set_option maxHeartbeats 1600000 in
/-- The body between the two ends of the launch's one grid point. -/
theorem wp_bodyOn_stage (c : Dev nD) : bodyPre m ρ c ⊢ runs (F := F) c (bodyOn c) (fun _ => bodyPost m ρ c) := by
  unfold bodyPre Dat.owesAt Pipeline.owesWithin
  rw [show (dats m ρ 0 c).owed t₀.castSucc = O₀ c from rfl]
  iintro ⟨HΦ, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (wp_bodyOn m ρ c _ W g1) $$ [HΦ HO Hx Hout]
  · isplitl [HΦ]; · iexact HΦ
    isplitl [HO]; · iexact HO
    isplitl [Hx] <;> iassumption
  unfold midOut doneOut bodyPost Φ₁ Dat.owesAt Pipeline.owesWithin
  rw [show (dats m ρ 0 c).owed t₀.succ = 0 from rfl]
  iintro ⟨⟨Hg, Hzs, Hzr, ⟨%W', HO⟩, Hout⟩, HzB, Hx⟩
  isplitl [Hg Hzs Hzr HzB]
  · isplitl [Hg]; · iexact Hg
    isplitl [Hzs]; · iexact Hzs
    isplitl [Hzr] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The printed body meets its obligation on every device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  rw [body_eq, wp_deviceId]
  exact wp_bodyOn_stage m ρ c

end Cert.KernelIdeal.Gather

end
-- ==== Proof.KernelIdeal.Launch.lean ====
/-
The run: what the launch deals the sixteen devices, and the theorem that every run ends with the results computed.
-/
module

public import proofs.«01_k».proof.Proof.KernelIdeal.Body
public import Idealize.ShloMosaic.Lib.Pipeline.CollectiveSegs

@[expose] public section

noncomputable section

namespace Cert.KernelIdeal.Gather

open Cert.KernelIdeal Cert.KernelIdeal.Gen
open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

/-- Every cell of the exchange; -/
def allCells : Finset (GSem nD τ sig) := Finset.univ.map ⟨kcell, kcell_injective⟩

/-- the duties of a device's own cells, numbered: the fifteen of its barrier, one of each send cell, one of each receive cell. -/
abbrev Duties : Type := Fin 15 ⊕ Fin 15 ⊕ Fin 15
abbrev dutyKind : Duties → Kinds × Fin 15
  | .inl k => (.inl (), k)
  | .inr j => (.inr j, 0)
theorem dutyKind_injective : Function.Injective dutyKind := by
  rintro (k | j) (k' | j') h
  · exact congrArg Sum.inl (congrArg Prod.snd h)
  · exact absurd (congrArg Prod.fst h) (by intro h'; cases h')
  · exact absurd (congrArg Prod.fst h) (by intro h'; cases h')
  · exact congrArg Sum.inr (Sum.inr.inj (congrArg Prod.fst h))
abbrev tokOf (cd : Dev nD × Duties) : GSem nD τ sig × ℕ × Fin 15 := (kcell (cd.1, (dutyKind cd.2).1), 0, (dutyKind cd.2).2)
theorem tokOf_injective : Function.Injective tokOf := by
  rintro ⟨c, d⟩ ⟨c', d'⟩ h
  have h1 := kcell_injective (congrArg Prod.fst h)
  have h2 : d = d' := dutyKind_injective (Prod.ext (congrArg Prod.snd h1) (congrArg (fun x : GSem nD τ sig × ℕ × Fin 15 => x.2.2) h))
  have h3 : c = c' := congrArg (fun x : Dev nD × Kinds => x.1) h1
  rw [h2, h3]
def allToks : Finset (GSem nD τ sig × ℕ × Fin 15) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun k : Fin 15 => dutyTok ER (barCell c) 0 k) ∗ (bigSep Finset.univ fun j : Fin 15 => dutyTok ER (sendCell c j) 0 0)
    ∗ bigSep Finset.univ fun j : Fin 15 => dutyTok ER (recvCell c j) 0 0)

/-- What the launch's element deals device `c`; -/
def G (c : Dev nD) : sProp 𝕄 :=
  iprop((bigSep Finset.univ fun k : Kinds => roundState ER (Rd m ρ) (kcell (c, k)) 0)
    ∗ (bigSep Finset.univ fun k : Kinds => iprop(atPos ER (kcell (c, k)) 0 ∅ 0 ∗ reached ER (kcell (c, k)) 0)) ∗ toks c)
/-- and what is made of it. -/
def G' (c : Dev nD) : sProp 𝕄 := iprop(∃ K, ghost m ρ K c)

/-- Over a device's cells: the barrier cell, the send cells, the receive cells. -/
theorem bigSep_kinds (Φ : Kinds → sProp 𝕄) : bigSep Finset.univ Φ
    = iprop(Φ (.inl ()) ∗ (bigSep Finset.univ fun j : Fin 15 => Φ (.inr (.inl j))) ∗ bigSep Finset.univ fun j : Fin 15 => Φ (.inr (.inr j))) := by
  rw [bigSep_univ_sum, bigSep_univ_sum, bigSep_univ_eq_bigSepL [()] (by decide) (by decide) (fun u : Unit => Φ (.inl u))]
  rfl

theorem toks_eq (c : Dev nD) : (bigSep Finset.univ fun d : Duties => dutyTok ER (tokOf (c, d)).1 (tokOf (c, d)).2.1 (tokOf (c, d)).2.2) = toks (F := F) c := by
  rw [bigSep_univ_sum, bigSep_univ_sum]
  rfl

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kinds => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores are the send and the receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 15 => semVal (sendCell c j) 0) ∗ bigSep Finset.univ fun j : Fin 15 => semVal (recvCell c j) 0) := by
  unfold Pipeline.ownSems0; rw [bigSep_univ_sum]; rfl
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kinds => semVal (kcell (c, k)) 0 : sProp 𝕄) := by
  rw [ownSems0_eq, unscopedSems0_eq, bigSep_kinds]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kinds => semVal (kcell (c, k)) 0) ∗ bigSep Finset.univ fun k : Kinds => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### Dealing the tokens to the devices that pay -/

/-- A family over devices and offsets, seen from the device `j + 1` places before. -/
theorem deal (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (fwd c j) j := by
  rw [bigSep_univ_comm, bigSep_univ_comm (fun (c : Dev nD) (j : Fin 15) => Φ (fwd c j) j)]
  exact bigSep_congr fun j _ => bigSep_univ_equiv (step j) fun c => Φ c j

theorem toks_around : (bigSep Finset.univ fun c : Dev nD => (toks c : sProp 𝕄)) ⊢ bigSep Finset.univ fun c : Dev nD => payToks c := by
  have hB : (bigSep Finset.univ fun c : Dev nD => bigSep Finset.univ fun k : Fin 15 => (dutyTok ER (barCell c) 0 k : sProp 𝕄))
      = bigSep Finset.univ fun c : Dev nD => bigSep Finset.univ fun j : Fin 15 => dutyTok ER (barCell (fwd c j)) 0 j.rev :=
    (bigSep_congr fun c _ => bigSep_univ_equiv Fin.revPerm fun k : Fin 15 => (dutyTok ER (barCell c) 0 k : sProp 𝕄)).trans
      (deal fun c j => dutyTok ER (barCell c) 0 j.rev)
  unfold toks payToks
  rw [bigSep_sep', bigSep_sep', bigSep_sep', bigSep_sep', hB, deal fun c j => dutyTok ER (recvCell c j) 0 0]
  iintro ⟨H1, H2, H3⟩
  isplitl [H1]; · iexact H1
  isplitl [H3]; · iexact H3
  iexact H2

theorem ghost_intro (K : Dev nD × Kinds → ℕ) (c : Dev nD) : iprop(records m ρ K ∗ positions c ∗ payToks c) ⊢ G' m ρ c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Kinds => iprop(∃ κ : ℕ, cellInv ER (Rd m ρ) κ (kcell ck))),
    bigSep_congr (s := Finset.univ) (fun (c : Dev nD) _ => bigSep_sep' Finset.univ (fun k : Kinds => (atPos ER (kcell (c, k)) 0 ∅ 0 : sProp 𝕄)) (fun k => reached ER (kcell (c, k)) 0)),
    bigSep_sep', ← bigSep_univ_prod (fun ck : Dev nD × Kinds => (reached ER (kcell ck) 0 : sProp 𝕄))]
  iintro ⟨HI, ⟨Hat, #HR⟩, Htok⟩
  ihave HK := (BI.bigSep_exists_pi Finset.univ (fun (ck : Dev nD × Kinds) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Kinds => (atPos ER (kcell (c, k)) 0 ∅ 0 : sProp 𝕄)) payToks).symm).trans
      (bigSep_mono fun c _ => show _ ⊢ iprop(positions c ∗ payToks c) from Entails.of_eq (by unfold positions; rw [bigSep_kinds]; rfl)))
    isplitl [Hat]; · iexact Hat
    iexact Htk

/-- From every device's semaphores at zero and its part of the launch's element to every device's state. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem bar_ne_recv (a b : Dev nD) (j : Fin 15) : barCell a ≠ recvCell b j := fun h =>
  absurd (kcell_injective (a₁ := (a, .inl ())) (a₂ := (b, .inr (.inr j))) h) (by intro h'; cases h')

/-- What device `d` owes a cell at launch: the sum over the fifteen copies and the fifteen signals. -/
theorem owed_sum (d : Dev nD) (g : GSem nD τ sig) :
    O₀ d g () = (∑ j : Fin 15, oweRecv d j g ()) + ∑ j : Fin 15, oweBar d j g () := by
  have h1 : O₁ d g () = ∑ j : Fin 15, oweRecv d j g () := by
    unfold O₁
    rw [oweL_apply, Fin.sum_univ_def, Pi.zero_apply, Finsupp.zero_apply, Nat.zero_add]
  unfold O₀
  rw [oweL_apply, h1, Fin.sum_univ_def (fun j : Fin 15 => oweBar d j g ())]

/-- Each offset brings device `c`'s barrier cell one unit. -/
theorem bar_units (c : Dev nD) (j : Fin 15) : ∑ d : Dev nD, oweBar d j (barCell c) () = 1 := by
  have e := Equiv.sum_comp (step j) fun d => (tallyAt (barCell d) () 1 : CellTallies nD τ sig Unit) (barCell c) ()
  refine (show _ = _ from e).trans ?_
  rw [Finset.sum_eq_single c (fun d _ hd => ?_) (fun h => absurd (Finset.mem_univ _) h), tallyAt_apply, if_pos ⟨rfl, rfl⟩]
  rw [tallyAt_apply, if_neg fun h => hd (congrArg (fun g : GSem nD τ sig => g.1.1) h.1).symm]

/-- Receive cell `i` of device `c` is credited by copy number `i` of one device. -/
theorem recv_units (c : Dev nD) (i j : Fin 15) : ∑ d : Dev nD, oweRecv d j (recvCell c i) () = if j = i then N else 0 := by
  have e := Equiv.sum_comp (step j) fun d => (tallyAt (recvCell d j) () N : CellTallies nD τ sig Unit) (recvCell c i) ()
  refine (show _ = _ from e).trans ?_
  have hk : ∀ d : Dev nD, recvCell c i = recvCell d j → c = d ∧ i = j := fun d h => by
    have h' := kcell_injective (a₁ := (c, .inr (.inr i))) (a₂ := (d, .inr (.inr j))) h
    exact ⟨congrArg Prod.fst h', Sum.inr.inj (Sum.inr.inj (congrArg Prod.snd h'))⟩
  by_cases hj : j = i
  · rw [if_pos hj, Finset.sum_eq_single c (fun d _ hd => ?_) (fun h => absurd (Finset.mem_univ _) h), tallyAt_apply, if_pos ⟨by rw [hj], rfl⟩]
    rw [tallyAt_apply, if_neg fun h => hd (hk d h.1).1.symm]
  · rw [if_neg hj]
    exact Finset.sum_eq_zero fun d _ => by rw [tallyAt_apply, if_neg fun h => hj (hk d h.1).2.symm]

theorem owed_bar (c : Dev nD) : ∑ d : Dev nD, O₀ d (barCell c) () = 15 := by
  rw [Finset.sum_congr rfl fun d _ => owed_sum d (barCell c), Finset.sum_add_distrib,
    Finset.sum_eq_zero fun d _ => Finset.sum_eq_zero fun j _ => ?_, Finset.sum_comm, Finset.sum_congr rfl fun j _ => bar_units c j]
  · rfl
  · unfold oweRecv; rw [tallyAt_apply, if_neg fun h => bar_ne_recv _ _ _ h.1]

theorem owed_recv (c : Dev nD) (i : Fin 15) : ∑ d : Dev nD, O₀ d (recvCell c i) () = N := by
  have hz : ∑ d : Dev nD, ∑ j : Fin 15, oweBar d j (recvCell c i) () = 0 :=
    Finset.sum_eq_zero fun d _ => Finset.sum_eq_zero fun j _ => by
      unfold oweBar; rw [tallyAt_apply, if_neg fun h => bar_ne_recv _ _ _ h.1.symm]
  rw [Finset.sum_congr rfl fun d _ => owed_sum d (recvCell c i), Finset.sum_add_distrib, hz, Finset.sum_comm,
    Finset.sum_congr rfl fun j _ => recv_units c i j, Finset.sum_ite_eq' Finset.univ i fun _ => N, if_pos (Finset.mem_univ _)]
  rfl

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, owed_bar]

theorem launch_recv (c : Dev nD) (i : Fin 15) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, owed_recv]

/-- The receive semaphores, as an embedding. -/
def recvEmb : Fin 15 ↪ SemLoc sig :=
  ⟨fun j => .dma (recvS j), fun a b h => Sum.inr.inj (Sum.inr.inj (csem_injective (a₁ := .inr (.inr a)) (a₂ := .inr (.inr b)) h))⟩

theorem creds (c : Dev nD) :
    (Pipeline.launchCred O₀ c : sProp 𝕄) ⊢ iprop(cred (tallyAt (barCell c) () 15) ∗ bigSep Finset.univ fun j : Fin 15 => cred (tallyAt (recvCell c j) () N)) := by
  unfold Pipeline.launchCred
  rw [bigSep_univ_at _ (SemLoc.reg barS), launch_bar]
  refine sep_mono_right ?_
  have hs : (Finset.univ.map recvEmb) ⊆ Finset.univ.erase (SemLoc.reg barS : SemLoc sig) := by
    intro x hx
    obtain ⟨j, -, rfl⟩ := Finset.mem_map.mp hx
    exact Finset.mem_erase.mpr ⟨(fun h => by cases h), Finset.mem_univ _⟩
  refine (bigSep_subset hs).trans ?_
  rw [bigSep_map]
  exact Entails.of_eq (bigSep_congr fun j _ => congrArg cred (launch_recv c j))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, HzS, HzV, HzB⟩
  isplitl [HzB]; · iexact HzB
  isplitl [HzS HzV]
  · isplitl [HzS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What the array of window `w` holds on device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every fair run of the sixteen devices ends, with each window's array at `finalA` on every device
    and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Gather

end
-- ==== Proof.Value.First.lean ====
/-
  The first index of a largest value, and the folds that find it: of the maximum, of the minimum, and of a choice
  between pairs. Nothing here is about a program.
-/
module

public import Idealize.ShloMosaic.PureOps.Reduce

@[expose] public section

namespace Cert.First

variable {α : Type} [LinearOrder α]

/-- `k` is the first index at which `x` takes its largest value. -/
def First {n : Nat} (x : Fin n → α) (k : Fin n) : Prop := ∀ i, x i < x k ∨ (x i = x k ∧ k ≤ i)

/-- No value exceeds the one there. -/
theorem First.le {n : Nat} {x : Fin n → α} {k : Fin n} (h : First x k) (i : Fin n) : x i ≤ x k := by
  rcases h i with h | h
  · exact h.le
  · exact h.1.le

/-- An index that takes the largest value is not before the first. -/
theorem First.le_of_eq {n : Nat} {x : Fin n → α} {k : Fin n} (h : First x k) {i : Fin n} (e : x i = x k) : k ≤ i := by
  rcases h i with h | h
  · exact absurd e h.ne
  · exact h.2

/-- There is one first index. -/
theorem First.unique {n : Nat} {x : Fin n → α} {k k' : Fin n} (h : First x k) (h' : First x k') : k = k' := by
  have e : x k = x k' := le_antisymm (h'.le k) (h.le k')
  exact le_antisymm (h.le_of_eq e.symm) (h'.le_of_eq e)

/-- Of finitely many values, and at least one, there is a first largest. -/
theorem exists_first {n : Nat} (hn : 0 < n) (x : Fin n → α) : ∃ k, First x k := by
  obtain ⟨k₀, -, h₀⟩ := Finset.exists_max_image Finset.univ x ⟨⟨0, hn⟩, Finset.mem_univ _⟩
  obtain ⟨k, hk, h⟩ := Finset.exists_min_image (Finset.univ.filter fun i => x i = x k₀) id
    ⟨k₀, Finset.mem_filter.2 ⟨Finset.mem_univ _, rfl⟩⟩
  have ek : x k = x k₀ := (Finset.mem_filter.1 hk).2
  refine ⟨k, fun i => ?_⟩
  rcases lt_or_eq_of_le (h₀ i (Finset.mem_univ i)) with hi | hi
  · exact .inl (ek ▸ hi)
  · exact .inr ⟨hi.trans ek.symm, h i (Finset.mem_filter.2 ⟨Finset.mem_univ _, hi⟩)⟩

/-- The fold of the maximum is a value that is attained and that neither the start nor any element exceeds. -/
theorem fold_max_eq {ι : Type} [Fintype ι] {b v : α} {f : ι → α} (k : ι) (hk : f k = v) (hb : b ≤ v) (hf : ∀ i, f i ≤ v) :
    (Finset.univ : Finset ι).fold max b f = v :=
  le_antisymm (Finset.fold_max_le v |>.2 ⟨hb, fun i _ => hf i⟩) (Finset.le_fold_max v |>.2 (.inr ⟨k, Finset.mem_univ k, hk.ge⟩))

/-- The fold of the minimum likewise. -/
theorem fold_min_eq {ι : Type} [Fintype ι] {b v : α} {f : ι → α} (k : ι) (hk : f k = v) (hb : v ≤ b) (hf : ∀ i, v ≤ f i) :
    (Finset.univ : Finset ι).fold min b f = v :=
  le_antisymm (Finset.fold_min_le v |>.2 (.inr ⟨k, Finset.mem_univ k, hk.le⟩)) (Finset.le_fold_min v |>.2 ⟨hb, fun i _ => hf i⟩)

open Idealize.ShloMosaic in
/-- The fold of the signed minimum of words, read as a number, is the fold of the minimum of the numbers. -/
theorem toInt_fold_minsi {ι : Type} [Fintype ι] (b : BitVec 32) (w : ι → BitVec 32) :
    ((Finset.univ : Finset ι).fold (IKind.op .minsi) b w).toInt = (Finset.univ : Finset ι).fold min b.toInt fun i => (w i).toInt := by
  refine (Finset.fold_hom (fun x y => ?_)).symm
  show (IntOp.minsi x y).toInt = _
  unfold IntOp.minsi
  by_cases h : x.toInt < y.toInt
  · rw [if_pos (by simpa [BitVec.slt] using h), min_eq_left h.le]
  · rw [if_neg (by simpa [BitVec.slt] using h), min_eq_right (not_lt.1 h)]

/-- A left fold of a choice between two: the result is the start or in the list, and it beats the start and everything in
    the list, if a choice is one of its two arguments and beats both. -/
theorem foldl_choice {P : Type} {beats : P → P → Prop} (refl : ∀ p, beats p p)
    (trans : ∀ p q r, beats p q → beats q r → beats p r) {f : P → P → P}
    (hf : ∀ p q, (f p q = p ∨ f p q = q) ∧ beats (f p q) p ∧ beats (f p q) q) (l : List P) (p : P) :
    (l.foldl f p = p ∨ l.foldl f p ∈ l) ∧ beats (l.foldl f p) p ∧ ∀ q ∈ l, beats (l.foldl f p) q := by
  induction l generalizing p with
  | nil => exact ⟨.inl rfl, refl p, fun q h => nomatch h⟩
  | cons a l ih =>
    obtain ⟨h1, h2, h3⟩ := ih (f p a)
    obtain ⟨g1, g2, g3⟩ := hf p a
    rw [List.foldl_cons]
    refine ⟨?_, trans _ _ _ h2 g2, fun q hq => ?_⟩
    · rcases h1 with h1 | h1
      · rw [h1]
        rcases g1 with g1 | g1
        · exact .inl g1
        · exact .inr (by rw [g1]; exact List.mem_cons_self)
      · exact .inr (List.mem_cons_of_mem _ h1)
    · rcases List.mem_cons.1 hq with rfl | hq
      · exact trans _ _ _ h2 g3
      · exact h3 q hq

end Cert.First
-- ==== Proof.Value.Split.lean ====
/-
  The first largest of 8192 values, found sixteenth by sixteenth: each sixteenth has its own first largest, and the first
  of the sixteenths that holds the largest of these holds the first largest of all.
-/
module

public import proofs.«01_k».proof.Proof.Value.First
public import Idealize.ShloMosaic.PureOps.Ideal

@[expose] public section

namespace Cert.First

variable {α : Type} [LinearOrder α]

/-- The number, among all rows, of row `r` of block `d`. -/
def row (d : Fin 16) (r : Fin 512) : Fin 8192 := ⟨d.val * 512 + r.val, by have := d.isLt; have := r.isLt; omega⟩

/-- Every row is a row of a block. -/
theorem row_surj (k : Fin 8192) : ∃ d r, row d r = k :=
  ⟨⟨k.val / 512, by have := k.isLt; omega⟩, ⟨k.val % 512, Nat.mod_lt _ (by decide)⟩, Fin.ext (by simp only [row]; omega)⟩

/-- The first largest of all is the first largest of its block. -/
theorem First.of_row {x : Fin 8192 → α} {d : Fin 16} {r : Fin 512} (h : First x (row d r)) : First (fun r => x (row d r)) r := by
  intro i
  rcases h (row d i) with h | ⟨h, hle⟩
  · exact .inl h
  · refine .inr ⟨h, ?_⟩
    have := Fin.le_def.1 hle
    simp only [row] at this
    exact Fin.le_def.2 (by omega)

variable {x : Fin 8192 → α} {k : Fin 8192} {e : Fin 16 → Fin 16} {f : Fin 16 → Fin 512}

/-- The largest of the blocks' largest values, taken in any order `e` of the blocks, is the largest of all. -/
theorem fold_max_blocks (h : First x k) (he : Function.Surjective e) (hf : ∀ d, First (fun r => x (row d r)) (f d)) {b : α} (hb : b ≤ x k) :
    (Finset.univ : Finset (Fin 16)).fold max b (fun s => x (row (e s) (f (e s)))) = x k := by
  obtain ⟨d, r, rfl⟩ := row_surj k
  obtain ⟨s, rfl⟩ := he d
  refine fold_max_eq s ?_ hb fun s' => h.le _
  rw [(hf (e s)).unique h.of_row]

/-- The least of the rows in which the blocks' largest values stand, over the blocks whose largest is the largest of all, is the
    row of the first largest of all; the other blocks and the start count as some number that no row exceeds. -/
theorem fold_min_blocks [DecidableEq α] (h : First x k) (he : Function.Surjective e) (hf : ∀ d, First (fun r => x (row d r)) (f d))
    {b o : EReal} (hb : ((8192 : ℝ) : EReal) ≤ b) (ho : ((8192 : ℝ) : EReal) ≤ o) :
    (Finset.univ : Finset (Fin 16)).fold min b
        (fun s => if x (row (e s) (f (e s))) = x k then (((row (e s) (f (e s))).val : ℝ) : EReal) else o) = ((k.val : ℝ) : EReal) := by
  have hk : ((k.val : ℝ) : EReal) ≤ ((8192 : ℝ) : EReal) := EReal.coe_le_coe_iff.2 (by exact_mod_cast k.isLt.le)
  obtain ⟨d, r, rfl⟩ := row_surj k
  obtain ⟨s, rfl⟩ := he d
  refine fold_min_eq s ?_ (hk.trans hb) fun s' => ?_
  · rw [(hf (e s)).unique h.of_row, if_pos rfl]
  · split
    · exact EReal.coe_le_coe_iff.2 (by exact_mod_cast h.le_of_eq (by assumption))
    · exact hk.trans ho

end Cert.First
-- ==== Proof.Value.Answer.lean ====
/-
  The value both programs end with: of every column of an array of 8192 rows and 512 columns the largest value, and below it the
  first row it stands in.
-/
module

public import proofs.«01_k».proof.Proof.Value.Split
public import Idealize.ShloMosaic.Lib.Pointwise

@[expose] public section

noncomputable section

namespace Cert.First

open Idealize.ShloMosaic

/-- The whole array. -/
abbrev Whole : Type := (⟨2, ![8192, 512]⟩ : Shape).Idx → EReal

/-- The first row in which column `l` takes its largest value. -/
def top (X : Whole) (l : Fin 512) : Fin 8192 := Classical.choose (exists_first (by decide) fun n : Fin 8192 => X (ix2 n l))

theorem top_first (X : Whole) (l : Fin 512) : First (fun n : Fin 8192 => X (ix2 n l)) (top X l) :=
  Classical.choose_spec (exists_first (by decide) fun n : Fin 8192 => X (ix2 n l))

/-- Row 0: the largest values; row 1: where they stand. -/
def answer (X : Whole) : (⟨2, ![2, 512]⟩ : Shape).Idx → EReal := fun i =>
  if (i 0).val = 0 then X (ix2 (top X (i 1)) (i 1)) else (((top X (i 1)).val : ℝ) : EReal)

end Cert.First
-- ==== Proof.Value.Block.lean ====
/-
  What the kernel computes, at the ideal values and element by element: of a device's own block, and of the gathered pairs.
-/
module

public import proofs.«01_k».proof.Proof.Value.Split
public import proofs.«01_k».proof.Proof.KernelIdeal.Slots
public import Idealize.ShloMosaic.Lib.Pointwise

@[expose] public section

noncomputable section

namespace Cert.KernelIdeal.Gather

open Cert.First Cert.KernelIdeal Cert.KernelIdeal.Gen
open Idealize.ShloMosaic Idealize.ShloMosaic.TcCoe

/-! ## The constants -/

/-- The start of a maximum is below everything, -/
theorem const_bot : Ideal.ofBits .f32 0xFF800000#32 = ⊥ := by simp [Ideal.ofBits, Ideal.ieee]
/-- that of a minimum above everything; -/
theorem const_top : Ideal.ofBits .f32 0x7F800000#32 = ⊤ := by simp [Ideal.ofBits, Ideal.ieee]
/-- a block has 512 rows; -/
theorem const_rows : Ideal.ofBits .f32 0x44000000#32 = ((512 : ℝ) : EReal) := by
  simp [Ideal.ofBits, Ideal.ieee, -EReal.coe_mul]; norm_num
/-- and the number that stands for no row is 16384. -/
theorem const_none : Ideal.ofBits .f32 0x46800000#32 = ((16384 : ℝ) : EReal) := by
  simp [Ideal.ofBits, Ideal.ieee, -EReal.coe_mul]; norm_num

/-! ## A block -/

section Block
variable (x : FVec Ideal S512x512 .f32) (l : Fin 512) {r : Fin 512} (h : First (fun r => x (ix2 r l)) r)
include h

/-- The largest value of a column of the block. -/
theorem colMax : (Finset.univ : Finset (Fin 512)).fold max ⊥ (fun r => x (ix2 r l)) = x (ix2 r l) :=
  fold_max_eq r rfl bot_le h.le

/-- The first row of the block it stands in, as a word. -/
theorem colRow : ((Finset.univ : Finset (Fin 512)).fold (IKind.op .minsi) 2147483647#32
      (fun i => if x (ix2 i l) = x (ix2 r l) then BitVec.ofNat 32 i.val else 16384#32)).toInt = (r.val : ℤ) := by
  have small : ∀ i : Fin 512, (BitVec.ofNat 32 i.val).toInt = (i.val : ℤ) := fun i => by
    have := i.isLt
    rw [BitVec.toInt_ofNat']
    exact Int.bmod_eq_of_le (by omega) (by omega)
  have hr := r.isLt
  rw [toInt_fold_minsi]
  refine fold_min_eq r ?_ ?_ fun i => ?_
  · rw [if_pos rfl, small]
  · rw [show (2147483647#32 : BitVec 32).toInt = 2147483647 from by decide]
    omega
  · split
    · rename_i e
      rw [small]
      exact_mod_cast h.le_of_eq e
    · rw [show (16384#32 : BitVec 32).toInt = 16384 from by decide]
      omega

/-- The kernel's column maximum is the largest value of the column, -/
theorem pay5_apply : k0_pay5 (F := Ideal) (k0_pay4 (F := Ideal) x) (ix3 0 0 l) = x (ix2 r l) := by
  pointwise [k0_pay5, k0_pay4, k0_pay2, k0_pay1]
  rw [const_bot]
  exact colMax x l h

/-- and its place the first row it stands in, counted on from the rows of the `v` blocks before. -/
theorem pay6_apply (v : BitVec 32) :
    k0_pay6 (F := Ideal) (k0_pay3 (F := Ideal) v x) (ix3 0 0 l) = ((v.toInt * 512 + r.val : ℝ) : EReal) := by
  pointwise [k0_pay6, k0_pay3, k0_pay2, k0_pay1]
  rw [const_bot, const_rows, colMax x l h]
  refine (congrArg (fun z : ℤ => ((z : ℝ) : EReal) + ((v.toInt : ℝ) : EReal) * ((512 : ℝ) : EReal)) (colRow x l h)).trans ?_
  rw [← EReal.coe_mul, ← EReal.coe_add]
  congr 1
  push_cast
  ring

end Block

/-! ## The gathered pairs -/

section Pairs
variable (g : FVec Ideal S16x2x512 .f32) (l : Fin 512)

/-- The first row of the result: the largest of the gathered maxima. -/
theorem pay9_apply : k0_pay9 (F := Ideal) g (ix2 0 l) = (Finset.univ : Finset (Fin 16)).fold max ⊥ (fun s => g (ix3 s 0 l)) := by
  pointwise [k0_pay9, k0_pay8, k0_pay7]
  rw [const_bot]

/-- The second: the least of the places that come with a largest maximum. -/
theorem pay10_apply : k0_pay10 (F := Ideal) g (ix2 0 l)
    = (Finset.univ : Finset (Fin 16)).fold min ⊤ (fun s =>
        if g (ix3 s 0 l) = (Finset.univ : Finset (Fin 16)).fold max ⊥ (fun s => g (ix3 s 0 l)) then g (ix3 s 1 l)
        else ((16384 : ℝ) : EReal)) := by
  pointwise [k0_pay10, k0_pay8, k0_pay7]
  rw [const_bot, const_top, const_none]

end Pairs

end Cert.KernelIdeal.Gather
-- ==== Proof.Value.Kernel.lean ====
/-
  The kernel's value: what every device ends with is the answer for the whole array of which the devices hold the blocks.
-/
module

public import proofs.«01_k».proof.Proof.Value.Answer
public import proofs.«01_k».proof.Proof.Value.Block
public import proofs.«01_k».proof.Proof.KernelIdeal.Launch
public import Idealize.ShloMosaic.Lib.Layout

@[expose] public section

noncomputable section

namespace Cert.KernelIdeal.Gather

open Cert.First Cert.KernelIdeal Cert.KernelIdeal.Gen
open Idealize.ShloMosaic Idealize.ShloMosaic.TcCoe Idealize.SL.Sem

/-- Every device is some number of places before `c`. -/
theorem src_surj (c : Dev nD) : Function.Surjective (src c) := by
  intro d
  have hc := c.isLt
  have hd := d.isLt
  simp only [nD] at hc hd
  refine ⟨⟨(c.val + (16 - d.val)) % 16, Nat.mod_lt _ (by decide)⟩, Fin.ext ?_⟩
  simp only [src, nD] at *
  omega

/-- The number a device computes for itself is its number. -/
theorem devNo_toInt : ∀ c : Dev nD, (devNo c).toInt = (c.val : ℤ) := by decide

variable (m : (ℓ : Loc nD τ sig) → Buf (Elt Ideal) ℓ) (ρ : Dev nD → PrngReg)

section
variable {X : Whole} (hx : ∀ (d : Dev nD) (r l : Fin 512), xstg m ρ d (ix2 r l) = X (ix2 (row d r) l))
  (l : Fin 512) {f : Dev nD → Fin 512} (hf : ∀ d, First (fun r => X (ix2 (row d r) l)) (f d))
include hx hf

/-- Slot `s` of device `c` ends with the largest value of the column in its block -/
theorem gath_best (c : Dev nD) (s : Fin 16) : gath m ρ c (ix3 s 0 l) = X (ix2 (row (src c s) (f (src c s))) l) := by
  refine (pay5_apply (xstg m ρ (src c s)) l (r := f (src c s)) ?_).trans (hx ..)
  simp only [hx]
  exact hf _

/-- and the row of the whole array in which it first stands in that block. -/
theorem gath_place (c : Dev nD) (s : Fin 16) : gath m ρ c (ix3 s 1 l) = (((row (src c s) (f (src c s))).val : ℝ) : EReal) := by
  refine (pay6_apply (xstg m ρ (src c s)) l (r := f (src c s)) ?_ (devNo (src c s))).trans ?_
  · simp only [hx]
    exact hf _
  · rw [devNo_toInt]
    simp only [row]
    push_cast
    rfl

end

/-- What device `c` writes out, if every device's block is its part of `X`. -/
theorem outAt_eq {X : Whole} (hx : ∀ (d : Dev nD) (r l : Fin 512), xstg m ρ d (ix2 r l) = X (ix2 (row d r) l)) (c : Dev nD) :
    outAt m ρ c = answer X := by
  funext i
  obtain ⟨l, hl⟩ : ∃ l : Fin 512, l = i 1 := ⟨_, rfl⟩
  choose f hf using fun d : Dev nD => exists_first (by decide) fun r : Fin 512 => X (ix2 (row d r) l)
  have ht := top_first X l
  have hbest := gath_best m ρ hx l hf c
  have hplace := gath_place m ρ hx l hf c
  have hmax := fold_max_blocks ht (src_surj c) hf (b := ⊥) bot_le
  have hmin := fold_min_blocks ht (src_surj c) hf (b := ⊤) (o := ((16384 : ℝ) : EReal)) le_top
    (EReal.coe_le_coe_iff.2 (by norm_num))
  unfold outAt answer
  rw [← hl]
  split
  · refine (pay9_apply _ l).trans ?_
    simp only [hbest]
    exact hmax
  · refine (pay10_apply _ l).trans ?_
    simp only [hbest, hplace]
    rw [hmax]
    exact hmin

/-- The result array holds what the body wrote: its one block is the whole array. -/
theorem finalA_out (c : Dev nD) : finalA m ρ c 1 = outAt m ρ c := by
  have whole : (fun a => (win0_1.index (0 : Fin 1)) a * main_v1.ty.shape.size a) = fun _ => 0 :=
    funext fun a => by fin_cases a <;> decide
  have read : (win0_1.blk (0 : Fin 1)).view.read (Elt Ideal) (finalA m ρ c 1) = outAt m ρ c := by
    unfold finalA
    rw [show cfg0.N = ((0 : Fin 1) : Fin cfg0.N).val + 1 from rfl, (dats m ρ 0 c).arrAt_succ (1 : Fin 2) (0 : Fin 1),
      show (cfg0.win (1 : Fin 2)).flush (0 : Fin 1) = true from by decide, if_pos rfl]
    exact View.read_write_univ _ _
  exact (Memref.read_access_unit_zero (Elt Ideal) main_v1 whole (fun a => by fin_cases a <;> decide) _).symm.trans read

/-- The block a device reads is its whole argument array. -/
theorem xstg_eq (c : Dev nD) : xstg m ρ c = m ((c : Thread nD τ).loc main_arg0) := by
  have whole : (fun a => (win0_0.index (0 : Fin 1)) a * main_arg0.ty.shape.size a) = fun _ => 0 :=
    funext fun a => by fin_cases a <;> decide
  exact Memref.read_access_unit_zero (Elt Ideal) main_arg0 whole (fun a => by fin_cases a <;> decide) _

/-- Device `c`'s result array ends with the answer for `X`, if every device's argument is its block of `X`. -/
theorem result_eq {X : Whole} (hX : ∀ d : Dev nD, m ((d.tc : Thread nD τ).loc main_arg0)
      = Layout.block ⟨2, ![512, 512]⟩ ⟨2, ![8192, 512]⟩ 0 16 d X) (c : Dev nD) :
    finalA m ρ c 1 = answer X := by
  refine (finalA_out m ρ c).trans (outAt_eq m ρ (fun d r l => ?_) c)
  rw [xstg_eq]
  refine (congrFun (hX d) (ix2 r l)).trans (congrArg X ?_)
  funext a
  fin_cases a <;> rfl

end Cert.KernelIdeal.Gather
-- ==== Proof.Value.Reference.lean ====
/-
  The reference's run, and its value: the answer for its argument.
-/
module

public import proofs.«01_k».proof.Proof.Gen.ReferenceIdeal
public import proofs.«01_k».proof.Proof.Value.Answer
public import Idealize.ShloMosaic.Lib.StableHlo.Run
public import Idealize.ShloMosaic.PureOps.Ideal.Laws

@[expose] public section

noncomputable section

namespace Cert.ReferenceIdeal.Whole

open Cert.First Cert.ReferenceIdeal Cert.ReferenceIdeal.Gen
open Idealize.ShloMosaic Idealize.ShloMosaic.TcCoe Idealize.ShloMosaic.StableHlo Idealize.SL.Sem

variable {F : FTy → Type} [FloatOps F]

/-! ## The run -/

/-- The reference's operations in order. -/
abbrev ops : List (HloOp τ sig (Elt F)) :=
  [ TRef.nullary main_call0.v0 (iotaInDim S8192x512 32 0),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S8192x512_S512_d0 h_S_ j).1),
    TRef.quaternary (.of main_arg0) main_call0.v0 main_call0.cst main_call0.c main_call0.v1_1
      (fun x y u v j => (Host.argReduce reducer_argmax_f32_i32 x y u v reducesTo_S8192x512_S512_d0 h_S_ j).2),
    unary main_v0 main_v1 (sitofp .f32),
    nullary main_cst (constant S_ .f32 0xFF800000#32),
    binary main_arg0 main_cst main_v2 (fun x v => Host.reduce FloatOps.maximumf x v reducesTo_S8192x512_S512_d0 h_S_),
    unary main_v2 main_v3 (broadcastInDim S1x512 ![1] bcast_S512_S1x512_1),
    unary main_v1 main_v4 (broadcastInDim S1x512 ![1] bcast_S512_S1x512_1),
    binary main_v3 main_v4 main_v5
      (fun a b => concatenate S2x512 0 [⟨S1x512, a⟩, ⟨S1x512, b⟩] concatenates_S1x512_S1x512_S2x512_d0) ]

/-- They are the program. -/
theorem main_eq (c : Dev nD) : main (F := F) c = seq ops := by
  simp only [main, fn_argmax.body, seq, bind_assoc, pure_bind]
  rfl

/-- The column maxima, -/
def maxima (x : FVec F S8192x512 .f32) : FVec F S512 .f32 :=
  Host.reduce FloatOps.maximumf x (constant S_ .f32 0xFF800000#32) reducesTo_S8192x512_S512_d0 h_S_
/-- The column maxima with the rows they first stand in, as the reference's search finds them, -/
def found (x : FVec F S8192x512 .f32) (j : S512.Idx) : F .f32 × BitVec 32 :=
  Host.argReduce reducer_argmax_f32_i32 x (iotaInDim S8192x512 32 0) (constant S_ .f32 0xFF800000#32) (constantI S_ 32 0#32)
    reducesTo_S8192x512_S512_d0 h_S_ j
/-- by that search; -/
theorem found_eq (x : FVec F S8192x512 .f32) (j : S512.Idx) : found x j
    = Host.argReduce reducer_argmax_f32_i32 x (iotaInDim S8192x512 32 0) (constant S_ .f32 0xFF800000#32) (constantI S_ 32 0#32)
        reducesTo_S8192x512_S512_d0 h_S_ j := rfl
/-- the rows. -/
def rows (x : FVec F S8192x512 .f32) : IVec S512 32 := fun j => (found x j).2
/-- The same, as an equation. -/
theorem rows_eq (x : FVec F S8192x512 .f32) : rows x = fun j => (found x j).2 := rfl
/-- The two, one below the other. -/
def out (x : FVec F S8192x512 .f32) : FVec F S2x512 .f32 :=
  concatenate S2x512 0 [⟨S1x512, broadcastInDim S1x512 ![1] bcast_S512_S1x512_1 (maxima x)⟩,
    ⟨S1x512, broadcastInDim S1x512 ![1] bcast_S512_S1x512_1 (sitofp .f32 (rows x) : FVec F S512 .f32)⟩]
    concatenates_S1x512_S1x512_S2x512_d0

/-- What the result buffer holds after the operations; -/
theorem after_out (V : Valuation τ sig (Elt F)) : after ops V (main_v5 : DevRef τ sig) = out (V (main_arg0 : DevRef τ sig)) := by
  after_results
  rfl
/-- the argument buffer holds what it held. -/
theorem after_arg (V : Valuation τ sig (Elt F)) : after ops V (main_arg0 : DevRef τ sig) = V (main_arg0 : DevRef τ sig) := by
  simp only [after_cons, after_nil]
  rfl

/-- Every operation touches buffers of the one device only. -/
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., binary_bufs_sub .., unary_bufs_sub .., unary_bufs_sub .., binary_bufs_sub ..⟩

/-- Every run of the reference ends, its result buffer at `out` of its argument and the argument as it was. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = out (m ((c.tc : Thread nD τ).loc main_arg0))
        ∧ r.2.mem ((c.tc : Thread nD τ).loc main_arg0) = m ((c.tc : Thread nD τ).loc main_arg0) :=
  (θ_run defs _ _).mono (fun _ h c => ⟨(h c main_v5).trans (after_out _), (h c main_arg0).trans (after_arg _)⟩)
    (run_seq (by decide) (by decide) defs main (fun _ => ops) main_eq (fun _ => ops_sub) m ρ)

/-! ## The value -/

/-- Of two pairs the first is as good: a larger value, or the same at a row not later. -/
def Beats (p q : EReal × BitVec 32) : Prop := q.1 < p.1 ∨ (q.1 = p.1 ∧ p.2.toInt ≤ q.2.toInt)

theorem Beats.refl (p : EReal × BitVec 32) : Beats p p := .inr ⟨rfl, le_rfl⟩

theorem Beats.trans (p q r : EReal × BitVec 32) (h : Beats p q) (h' : Beats q r) : Beats p r := by
  rcases h with h | ⟨e, h⟩ <;> rcases h' with h' | ⟨e', h'⟩
  · exact .inl (h'.trans h)
  · exact .inl (e' ▸ h)
  · exact .inl (e ▸ h')
  · exact .inr ⟨e'.trans e, h.trans h'⟩

/-- The reference's choice between two pairs is one of them and as good as both. -/
theorem reducer_choice (p q : EReal × BitVec 32) :
    (reducer_argmax_f32_i32 (F := Ideal) p q = p ∨ reducer_argmax_f32_i32 (F := Ideal) p q = q)
      ∧ Beats (reducer_argmax_f32_i32 (F := Ideal) p q) p ∧ Beats (reducer_argmax_f32_i32 (F := Ideal) p q) q := by
  obtain ⟨a, i⟩ := p
  obtain ⟨b, j⟩ := q
  have key : reducer_argmax_f32_i32 (F := Ideal) (a, i) (b, j)
      = if b < a ∨ (a = b ∧ i.toInt < j.toInt) then (a, i) else (b, j) := by
    have ne : FloatOps.cmpf (F := Ideal) (φ := .f32) .une a a = 0#1 := by simp [Ideal.cmpf_def, Ideal.cmp]
    have gt : FloatOps.cmpf (F := Ideal) (φ := .f32) .ogt a b = BitVec.ofBool (decide (b < a)) := rfl
    have eq : FloatOps.cmpf (F := Ideal) (φ := .f32) .oeq a b = BitVec.ofBool (decide (a = b)) := rfl
    have lt : IntOp.cmpi .slt i j = BitVec.ofBool (decide (i.toInt < j.toInt)) := rfl
    simp only [reducer_argmax_f32_i32, ne, gt, eq, lt, Scalar.select, IntOp.ori, IntOp.andi]
    by_cases h1 : b < a
    · simp [h1, h1.ne']
    · by_cases h2 : a = b
      · by_cases h3 : i.toInt < j.toInt <;> simp [h2, h3]
      · simp [h1, h2]
  rw [key]
  split
  · rename_i h
    refine ⟨.inl rfl, Beats.refl _, ?_⟩
    rcases h with h | ⟨e, h⟩
    · exact .inl h
    · exact .inr ⟨e.symm, h.le⟩
  · rename_i h
    rw [not_or, not_and, not_lt, not_lt] at h
    refine ⟨.inr rfl, ?_, Beats.refl _⟩
    rcases lt_or_eq_of_le h.1 with h' | e
    · exact .inl h'
    · exact .inr ⟨e, h.2 e⟩

/-- The column maximum is the value at the first row of the largest value. -/
theorem maxima_apply (X : Whole) (l : Fin 512) : maxima (F := Ideal) X (ix1 l) = X (ix2 (top X l) l) := by
  pointwise [maxima]
  rw [show Ideal.ofBits .f32 0xFF800000#32 = ⊥ from by simp [Ideal.ofBits, Ideal.ieee]]
  exact fold_max_eq (top X l) rfl bot_le (top_first X l).le

/-- The reference's search over the positions that `j` stands for: it ends with the start or with the pair of one of these positions,
    and with one as good as the start and as each of these. -/
theorem search {s t u : Shape} {axes : List (Fin s.rank)} (x : s.Idx → EReal) (y : s.Idx → BitVec 32) (ix : u.Idx → EReal)
    (iy : u.Idx → BitVec 32) (h : s.ReducesTo axes t) (hu : 0 < u.numel) (j : t.Idx) (r : EReal × BitVec 32)
    (hr : r = Host.argReduce (F := Ideal) (φ := .f32) (reducer_argmax_f32_i32 (F := Ideal)) x y ix iy h hu j) :
    (r = (ix (Shape.Idx.first hu), iy (Shape.Idx.first hu)) ∨ ∃ i, h.drop i = j ∧ r = (x i, y i))
      ∧ ∀ i, h.drop i = j → Beats r (x i, y i) := by
  rw [Ideal.argReduce_eq_reduce2, Host.reduce2_eq_foldl_fiber] at hr
  obtain ⟨h1, -, h3⟩ := foldl_choice Beats.refl Beats.trans reducer_choice
    (Host.argReduceFiber x y h j) (ix (Shape.Idx.first hu), iy (Shape.Idx.first hu))
  have mem : ∀ p, p ∈ Host.argReduceFiber x y h j ↔ ∃ i, h.drop i = j ∧ p = (x i, y i) := by
    intro p
    unfold Host.argReduceFiber
    simp only [List.mem_map, List.mem_filter, List.mem_finRange, true_and, decide_eq_true_eq]
    constructor
    · rintro ⟨n, hn, rfl⟩
      exact ⟨_, hn, rfl⟩
    · rintro ⟨i, hi, rfl⟩
      exact ⟨s.rowMajor i, by rw [Equiv.symm_apply_apply]; exact hi, by rw [Equiv.symm_apply_apply]⟩
  subst hr
  exact ⟨h1.imp_right fun h => (mem _).1 h, fun i hi => h3 _ ((mem _).2 ⟨i, hi, rfl⟩)⟩

/-- A position stands for column `l` exactly if it lies in it. -/
theorem drop_eq_iff (i : S8192x512.Idx) (l : Fin 512) :
    reducesTo_S8192x512_S512_d0.drop i = ix1 l ↔ ∃ n : Fin 8192, i = ix2 n l := by
  have val : (reducesTo_S8192x512_S512_d0.drop i 0 : Nat) = i 1 := reducesTo_S8192x512_S512_d0.drop_apply_val_of_eq i 0 1
  constructor
  · intro h
    refine ⟨i 0, ?_⟩
    have e : (i 1).val = l.val := by rw [← val, h]; rfl
    funext a
    fin_cases a
    · rfl
    · exact Fin.ext e
  · rintro ⟨n, rfl⟩
    funext a
    fin_cases a
    exact Fin.ext val

/-- The row's number, read off the word the reference counts with. -/
theorem number (n : Fin 8192) (l : Fin 512) : (iotaInDim S8192x512 32 0 (ix2 n l) : BitVec 32).toInt = (n.val : ℤ) := by
  have := n.isLt
  rw [show iotaInDim S8192x512 32 0 (ix2 n l) = BitVec.ofNat 32 n.val from rfl, BitVec.toInt_ofNat']
  exact Int.bmod_eq_of_le (by omega) (by omega)

/-- A pair that is the start or the pair of one of the rows, and as good as the pair of each row, has the first row of the
    largest value: of a column of which every value is the lowest the start itself is such a pair, at row 0. -/
theorem pair_row (X : Whole) (l : Fin 512) (p : EReal × BitVec 32)
    (h1 : p = (⊥, 0#32) ∨ ∃ n : Fin 8192, p = (X (ix2 n l), iotaInDim S8192x512 32 0 (ix2 n l)))
    (h2 : ∀ n : Fin 8192, Beats p (X (ix2 n l), iotaInDim S8192x512 32 0 (ix2 n l))) : p.2.toInt = ((top X l).val : ℤ) := by
  have best : ∀ n : Fin 8192, X (ix2 n l) < p.1 ∨ (X (ix2 n l) = p.1 ∧ p.2.toInt ≤ (n.val : ℤ)) := fun n =>
    (h2 n).imp_right fun h => ⟨h.1, h.2.trans_eq (number n l)⟩
  obtain ⟨k, hv, hk⟩ : ∃ k : Fin 8192, X (ix2 k l) = p.1 ∧ p.2.toInt = (k.val : ℤ) := by
    rcases h1 with rfl | ⟨n, rfl⟩
    · have pos : 0 < 8192 := by decide
      refine ⟨⟨0, pos⟩, ?_, by simp⟩
      rcases best ⟨0, pos⟩ with h | h
      · exact absurd h not_lt_bot
      · exact h.1
    · exact ⟨n, rfl, number n l⟩
  have first : First (fun n : Fin 8192 => X (ix2 n l)) k := fun n => by
    show X (ix2 n l) < X (ix2 k l) ∨ (X (ix2 n l) = X (ix2 k l) ∧ k ≤ n)
    rw [hv]
    exact (best n).imp_right fun h => ⟨h.1, Fin.le_def.2 (by have := h.2; rw [hk] at this; exact_mod_cast this)⟩
  rw [hk, first.unique (top_first X l)]

/-- The row found is the first row of the largest value. -/
theorem rows_apply (X : Whole) (l : Fin 512) : (rows (F := Ideal) X (ix1 l)).toInt = ((top X l).val : ℤ) := by
  refine (congrArg BitVec.toInt (congrFun (rows_eq (F := Ideal) X) (ix1 l))).trans ?_
  beta_reduce
  obtain ⟨h1, h2⟩ := search X (iotaInDim S8192x512 32 0) (constant (F := Ideal) S_ .f32 0xFF800000#32) (constantI S_ 32 0#32)
    reducesTo_S8192x512_S512_d0 h_S_ (ix1 l) _ (found_eq (F := Ideal) X (ix1 l))
  refine pair_row X l _ ?_ fun n => h2 _ ((drop_eq_iff _ l).2 ⟨n, rfl⟩)
  rcases h1 with h | ⟨i, hi, h⟩
  · refine .inl (h.trans ?_)
    refine Prod.ext ?_ rfl
    show Ideal.ofBits .f32 0xFF800000#32 = ⊥
    simp [Ideal.ofBits, Ideal.ieee]
  · obtain ⟨n, rfl⟩ := (drop_eq_iff i l).1 hi
    exact .inr ⟨n, h⟩

/-- The reference's result is the answer for its argument. -/
theorem out_eq (X : Whole) : out (F := Ideal) X = answer X := by
  funext i
  obtain ⟨r, l, rfl⟩ : ∃ (r : Fin 2) (l : Fin 512), i = ix2 r l := ⟨i 0, i 1, by funext a; fin_cases a <;> rfl⟩
  fin_cases r
  · pointwise [out]
    exact maxima_apply X l
  · pointwise [out]
    exact congrArg (fun z : ℤ => ((z : ℝ) : EReal)) (rows_apply X l)

end Cert.ReferenceIdeal.Whole
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Launch
public import proofs.«01_k».proof.Proof.KernelIdeal.Launch
public import proofs.«01_k».proof.Proof.Value.Kernel
public import proofs.«01_k».proof.Proof.Value.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every run of the kernel at machine floats ends, the argument as it was and every counter at zero. -/
theorem frame_kernel : Cert.quiescent_Kernel := by
  intro m ρ _
  exact (θ_run Cert.Kernel.defs _ _).mono
    (fun _ h => ⟨fun c => (h.1 c 0).trans (Cert.Kernel.Gather.finalA_x m ρ c), h.2⟩)
    (Cert.Kernel.Gather.run_main (F := Bits) m ρ)

/-- The same at the ideal values. -/
theorem frame_kernelIdeal : Cert.quiescent_KernelIdeal := by
  intro m ρ _
  exact (θ_run Cert.KernelIdeal.defs _ _).mono
    (fun _ h => ⟨fun c => (h.1 c 0).trans (Cert.KernelIdeal.Gather.finalA_x m ρ c), h.2⟩)
    (Cert.KernelIdeal.Gather.run_main (F := Ideal) m ρ)

/-- Every run of the reference ends, the argument as it was; it has no counters. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Whole.run_main (F := Ideal) m ρ)

/-- On every device the kernel ends with the reference's result: both end with the answer for the whole array. -/
theorem value : Cert.algebraic_KernelIdeal_ReferenceIdeal := by
  intro m ρ m' ρ' _ hagree
  refine ⟨Cert.First.answer (m' (((0 : Dev Cert.ReferenceIdeal.nD).tc : Thread _ Cert.ReferenceIdeal.τ).loc Cert.ReferenceIdeal.main_arg0)),
    ?_, ?_⟩
  · exact (θ_run Cert.KernelIdeal.defs _ _).mono
      (fun _ h c => ⟨(h.1 c 1).trans (Cert.KernelIdeal.Gather.result_eq m ρ hagree c),
        (h.1 c 0).trans (Cert.KernelIdeal.Gather.finalA_x m ρ c)⟩)
      (Cert.KernelIdeal.Gather.run_main (F := Ideal) m ρ)
  · exact (θ_run Cert.ReferenceIdeal.defs _ _).mono
      (fun _ h => ⟨(h 0).1.trans (Cert.ReferenceIdeal.Whole.out_eq _), (h 0).2⟩)
      (Cert.ReferenceIdeal.Whole.run_main (F := Ideal) m' ρ')

/-- The certificate. -/
theorem claim : Cert.Claim := ⟨Cert.Kernel.Gen.facts, Cert.KernelIdeal.Gen.facts, Cert.ReferenceIdeal.Gen.facts,
  frame_kernel, frame_kernelIdeal, frame_reference, trivial, value⟩

end Cert.Proof

end
